-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_two_experts_KernelIdeal [hPre_finite_two_experts_KernelIdeal : Cert.Pre_finite_two_experts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_two_experts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_two_experts_ReferenceIdeal [hPre_finite_two_experts_ReferenceIdeal : Cert.Pre_finite_two_experts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_two_experts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_two_experts_KernelIdeal [hKernelIdeal : Cert.KernelIdeal.Facts] [hPre_finite_two_experts_KernelIdeal : Cert.Pre_finite_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_two_experts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_two_experts_ReferenceIdeal [hReferenceIdeal : Cert.ReferenceIdeal.Facts] [hPre_finite_two_experts_ReferenceIdeal : Cert.Pre_finite_two_experts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_two_experts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_two_experts_KernelIdeal [hKernelIdeal : Cert.KernelIdeal.Facts] [hReferenceIdeal : Cert.ReferenceIdeal.Facts] [hPre_finite_two_experts_KernelIdeal : Cert.Pre_finite_two_experts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_two_experts_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_two_experts_KernelIdeal : Cert.Pre_finite_two_experts_KernelIdeal.Facts) (hPre_finite_two_experts_ReferenceIdeal : Cert.Pre_finite_two_experts_ReferenceIdeal.Facts),
    quiescent_Kernel (hKernel := hKernel)
    ∧ quiescent_KernelIdeal (hKernelIdeal := hKernelIdeal)
    ∧ quiescent_KernelIdeal_pre_finite_two_experts_KernelIdeal (hKernelIdeal := hKernelIdeal) (hPre_finite_two_experts_KernelIdeal := hPre_finite_two_experts_KernelIdeal)
    ∧ quiescent_ReferenceIdeal (hReferenceIdeal := hReferenceIdeal)
    ∧ quiescent_ReferenceIdeal_pre_finite_two_experts_ReferenceIdeal (hReferenceIdeal := hReferenceIdeal) (hPre_finite_two_experts_ReferenceIdeal := hPre_finite_two_experts_ReferenceIdeal)
    ∧ preserves_Kernel_KernelIdeal
    ∧ algebraic_KernelIdeal_ReferenceIdeal_pre_finite_two_experts_KernelIdeal (hKernelIdeal := hKernelIdeal) (hReferenceIdeal := hReferenceIdeal) (hPre_finite_two_experts_KernelIdeal := hPre_finite_two_experts_KernelIdeal)
-- ==== Pre_finite_two_experts_KernelIdeal.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S512x1 : Shape := ⟨2, ![512, 1]⟩
abbrev S512 : Shape := ⟨1, ![512]⟩
abbrev S_ : Shape := ⟨0, ![]⟩
abbrev S512x1x1 : Shape := ⟨3, ![512, 1, 1]⟩
abbrev S512x256x1 : Shape := ⟨3, ![512, 256, 1]⟩
abbrev S1x256x64 : Shape := ⟨3, ![1, 256, 64]⟩
abbrev S512x256x64 : Shape := ⟨3, ![512, 256, 64]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  bcast_S_S256x64 : S_.BroadcastsInDim S256x64 (![] : Fin 0 → Fin S256x64.rank)
  bcast_S512_S512x1x1_0 : S512.BroadcastsInDim S512x1x1 (![0] : Fin 1 → Fin S512x1x1.rank)
  bcast_S512x256_S512x256x1_0_1 : S512x256.BroadcastsInDim S512x256x1 (![0, 1] : Fin 2 → Fin S512x256x1.rank)
  bcast_S512x1x1_S512x256x1_0_1_2 : S512x1x1.BroadcastsInDim S512x256x1 (![0, 1, 2] : Fin 3 → Fin S512x256x1.rank)
  bcast_S256x64_S1x256x64_1_2 : S256x64.BroadcastsInDim S1x256x64 (![1, 2] : Fin 2 → Fin S1x256x64.rank)
  bcast_S512x256x1_S512x256x64_0_1_2 : S512x256x1.BroadcastsInDim S512x256x64 (![0, 1, 2] : Fin 3 → Fin S512x256x64.rank)
  bcast_S1x256x64_S512x256x64_0_1_2 : S1x256x64.BroadcastsInDim S512x256x64 (![0, 1, 2] : Fin 3 → Fin S512x256x64.rank)

variable [Facts]

def fn_part1 {F : FTy → Type} [FloatOps F] (main_arg1 : FVec F S256x64 .bf16) (main_v16 : IVec S512 1) (main_v17 : FVec F S512x256 .bf16) (main_v18 : FVec F S512x256 .bf16) : IVec S512x256x64 1 :=
  let main_v19 : IVec S512x256 1 := cmpf .olt main_v17 main_v18
  let main_v20 : FVec F S256x64 .bf16 := Host.absf main_arg1
  let main_cst_3 : FVec F S_ .bf16 := constant S_ .bf16 0x7F80#16
  let main_v21 : FVec F S256x64 .bf16 := broadcastInDim S256x64 ![] bcast_S_S256x64 main_cst_3
  let main_v22 : IVec S256x64 1 := cmpf .olt main_v20 main_v21
  let main_v23 : IVec S512x1x1 1 := broadcastInDim S512x1x1 ![0] bcast_S512_S512x1x1_0 main_v16
  let main_v24 : IVec S512x256x1 1 := broadcastInDim S512x256x1 ![0, 1] bcast_S512x256_S512x256x1_0_1 main_v19
  let main_v25 : IVec S512x256x1 1 := broadcastInDim S512x256x1 ![0, 1, 2] bcast_S512x1x1_S512x256x1_0_1_2 main_v23
  let main_v26 : IVec S512x256x1 1 := andi main_v25 main_v24
  let main_v27 : IVec S1x256x64 1 := broadcastInDim S1x256x64 ![1, 2] bcast_S256x64_S1x256x64_1_2 main_v22
  let main_v28 : IVec S512x256x64 1 := broadcastInDim S512x256x64 ![0, 1, 2] bcast_S512x256x1_S512x256x64_0_1_2 main_v26
  let main_v29 : IVec S512x256x64 1 := broadcastInDim S512x256x64 ![0, 1, 2] bcast_S1x256x64_S512x256x64_0_1_2 main_v27
  let main_v30 : IVec S512x256x64 1 := andi main_v28 main_v29
  main_v30

def fn {F : FTy → Type} [FloatOps F] (main_arg0 : FVec F S512x256 .bf16) (main_arg1 : FVec F S256x64 .bf16) (main_arg2 : IVec S512x2 32) (main_arg3 : FVec F S2x256x512 .bf16) : IVec S512x256x64 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 64#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_v11 : IVec S512 1 := andi main_v8 main_v10
  let main_c_2 : IVec S_ 32 := constantI S_ 32 64#32
  let main_v12 : IVec S512 32 := broadcastInDim S512 ![] bcast_S_S512 main_c_2
  let main_v13 : IVec S512 1 := cmpi .slt main_v3 main_v12
  let main_v14 : IVec S512 1 := andi main_v11 main_v13
  let main_v15 : IVec S512 1 := cmpi .ne main_v1 main_v3
  let main_v16 : IVec S512 1 := andi main_v14 main_v15
  let main_v17 : FVec F S512x256 .bf16 := Host.absf main_arg0
  let main_cst : FVec F S_ .bf16 := constant S_ .bf16 0x7F80#16
  let main_v18 : FVec F S512x256 .bf16 := broadcastInDim S512x256 ![] bcast_S_S512x256 main_cst
  fn_part1 (F := F) main_arg1 main_v16 main_v17 main_v18
-- ==== Pre_finite_two_experts_ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x1 : Shape := ⟨2, ![512, 1]⟩
abbrev S512 : Shape := ⟨1, ![512]⟩
abbrev S_ : Shape := ⟨0, ![]⟩
abbrev S512x1x1 : Shape := ⟨3, ![512, 1, 1]⟩
abbrev S512x256x1 : Shape := ⟨3, ![512, 256, 1]⟩
abbrev S1x256x64 : Shape := ⟨3, ![1, 256, 64]⟩
abbrev S512x256x64 : Shape := ⟨3, ![512, 256, 64]⟩

class Facts : Prop where
  slices_S512x2_S512x1_0_0 : S512x2.Slices ![0, 0] S512x1
  shapeCasts_S512x1_S512 : S512x1.ShapeCasts S512
  slices_S512x2_S512x1_0_1 : S512x2.Slices ![0, 1] S512x1
  bcast_S_S512 : S_.BroadcastsInDim S512 (![] : Fin 0 → Fin S512.rank)
  bcast_S_S512x256 : S_.BroadcastsInDim S512x256 (![] : Fin 0 → Fin S512x256.rank)
  bcast_S_S256x64 : S_.BroadcastsInDim S256x64 (![] : Fin 0 → Fin S256x64.rank)
  bcast_S512_S512x1x1_0 : S512.BroadcastsInDim S512x1x1 (![0] : Fin 1 → Fin S512x1x1.rank)
  bcast_S512x256_S512x256x1_0_1 : S512x256.BroadcastsInDim S512x256x1 (![0, 1] : Fin 2 → Fin S512x256x1.rank)
  bcast_S512x1x1_S512x256x1_0_1_2 : S512x1x1.BroadcastsInDim S512x256x1 (![0, 1, 2] : Fin 3 → Fin S512x256x1.rank)
  bcast_S256x64_S1x256x64_1_2 : S256x64.BroadcastsInDim S1x256x64 (![1, 2] : Fin 2 → Fin S1x256x64.rank)
  bcast_S512x256x1_S512x256x64_0_1_2 : S512x256x1.BroadcastsInDim S512x256x64 (![0, 1, 2] : Fin 3 → Fin S512x256x64.rank)
  bcast_S1x256x64_S512x256x64_0_1_2 : S1x256x64.BroadcastsInDim S512x256x64 (![0, 1, 2] : Fin 3 → Fin S512x256x64.rank)

variable [Facts]

def fn_part1 {F : FTy → Type} [FloatOps F] (main_arg1 : FVec F S256x64 .bf16) (main_v16 : IVec S512 1) (main_v17 : FVec F S512x256 .bf16) (main_v18 : FVec F S512x256 .bf16) : IVec S512x256x64 1 :=
  let main_v19 : IVec S512x256 1 := cmpf .olt main_v17 main_v18
  let main_v20 : FVec F S256x64 .bf16 := Host.absf main_arg1
  let main_cst_3 : FVec F S_ .bf16 := constant S_ .bf16 0x7F80#16
  let main_v21 : FVec F S256x64 .bf16 := broadcastInDim S256x64 ![] bcast_S_S256x64 main_cst_3
  let main_v22 : IVec S256x64 1 := cmpf .olt main_v20 main_v21
  let main_v23 : IVec S512x1x1 1 := broadcastInDim S512x1x1 ![0] bcast_S512_S512x1x1_0 main_v16
  let main_v24 : IVec S512x256x1 1 := broadcastInDim S512x256x1 ![0, 1] bcast_S512x256_S512x256x1_0_1 main_v19
  let main_v25 : IVec S512x256x1 1 := broadcastInDim S512x256x1 ![0, 1, 2] bcast_S512x1x1_S512x256x1_0_1_2 main_v23
  let main_v26 : IVec S512x256x1 1 := andi main_v25 main_v24
  let main_v27 : IVec S1x256x64 1 := broadcastInDim S1x256x64 ![1, 2] bcast_S256x64_S1x256x64_1_2 main_v22
  let main_v28 : IVec S512x256x64 1 := broadcastInDim S512x256x64 ![0, 1, 2] bcast_S512x256x1_S512x256x64_0_1_2 main_v26
  let main_v29 : IVec S512x256x64 1 := broadcastInDim S512x256x64 ![0, 1, 2] bcast_S1x256x64_S512x256x64_0_1_2 main_v27
  let main_v30 : IVec S512x256x64 1 := andi main_v28 main_v29
  main_v30

def fn {F : FTy → Type} [FloatOps F] (main_arg0 : FVec F S512x256 .bf16) (main_arg1 : FVec F S256x64 .bf16) (main_arg2 : IVec S512x2 32) (main_arg3 : FVec F S64x256x512 .bf16) : IVec S512x256x64 1 :=
  let main_v0 : IVec S512x1 32 := (extractStridedSlice S512x1 ![0, 0] · slices_S512x2_S512x1_0_0) main_arg2
  let main_v1 : IVec S512 32 := shapeCast S512 main_v0 shapeCasts_S512x1_S512
  let main_v2 : IVec S512x1 32 := (extractStridedSlice S512x1 ![0, 1] · slices_S512x2_S512x1_0_1) main_arg2
  let main_v3 : IVec S512 32 := shapeCast S512 main_v2 shapeCasts_S512x1_S512
  let main_c : IVec S_ 32 := constantI S_ 32 0#32
  let main_v4 : IVec S512 32 := broadcastInDim S512 ![] bcast_S_S512 main_c
  let main_v5 : IVec S512 1 := cmpi .sge main_v1 main_v4
  let main_c_0 : IVec S_ 32 := constantI S_ 32 64#32
  let main_v6 : IVec S512 32 := broadcastInDim S512 ![] bcast_S_S512 main_c_0
  let main_v7 : IVec S512 1 := cmpi .slt main_v1 main_v6
  let main_v8 : IVec S512 1 := andi main_v5 main_v7
  let main_c_1 : IVec S_ 32 := constantI S_ 32 0#32
  let main_v9 : IVec S512 32 := broadcastInDim S512 ![] bcast_S_S512 main_c_1
  let main_v10 : IVec S512 1 := cmpi .sge main_v3 main_v9
  let main_v11 : IVec S512 1 := andi main_v8 main_v10
  let main_c_2 : IVec S_ 32 := constantI S_ 32 64#32
  let main_v12 : IVec S512 32 := broadcastInDim S512 ![] bcast_S_S512 main_c_2
  let main_v13 : IVec S512 1 := cmpi .slt main_v3 main_v12
  let main_v14 : IVec S512 1 := andi main_v11 main_v13
  let main_v15 : IVec S512 1 := cmpi .ne main_v1 main_v3
  let main_v16 : IVec S512 1 := andi main_v14 main_v15
  let main_v17 : FVec F S512x256 .bf16 := Host.absf main_arg0
  let main_cst : FVec F S_ .bf16 := constant S_ .bf16 0x7F80#16
  let main_v18 : FVec F S512x256 .bf16 := broadcastInDim S512x256 ![] bcast_S_S512x256 main_cst
  fn_part1 (F := F) main_arg1 main_v16 main_v17 main_v18
-- ==== Kernel.lean ====
abbrev S512x256 : Shape := ⟨2, ![512, 256]⟩
abbrev S256x64 : Shape := ⟨2, ![256, 64]⟩
abbrev S512x2 : Shape := ⟨2, ![512, 2]⟩
abbrev S2x256x512 : Shape := ⟨3, ![2, 256, 512]⟩
abbrev S512x512 : Shape := ⟨2, ![512, 512]⟩
abbrev S31x16x512 : Shape := ⟨3, ![31, 16, 512]⟩
abbrev S62 : Shape := ⟨1, ![62]⟩
abbrev S_ : Shape := ⟨0, ![]⟩
abbrev S512x64 : Shape := ⟨2, ![512, 64]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S1 : Shape := ⟨1, ![1]⟩
abbrev S1x16x512 : Shape := ⟨3, ![1, 16, 512]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S256x64, .bf16⟩
  | .local _ .vmem, ⟨2, _⟩ => ⟨S512x2, .i32⟩
  | .local _ .vmem, ⟨3, _⟩ => ⟨S2x256x512, .bf16⟩
  | .local _ .vmem, ⟨4, _⟩ => ⟨S512x512, .f32⟩
  | .local _ .vmem, ⟨5, _⟩ => ⟨S512x512, .bf16⟩
  | .local _ .vmem, ⟨6, _⟩ => ⟨S31x16x512, .bf16⟩
  | .local _ .vmem, ⟨7, _⟩ => ⟨S512x512, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 129 → Bool
  | ⟨i, _⟩ => dmaSemScopedAt i

abbrev sig : RefSig :=
  (ofTc nBuf bufTy 1 129 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_155 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v207 : BitVec 32 := Scalar.addi v2 c1_i32_155
  let c32_i32_156 : BitVec 32 := 32#32
  let v208 : BitVec 32 := Scalar.remsi v207 c32_i32_156
  let c16_i32_157 : BitVec 32 := 16#32
  let v209 : BitVec 32 := Scalar.muli v208 c16_i32_157
  let c0_i32_165 : BitVec 32 := 0#32
  ![v209.toNat, 0]
def k0_dev32 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_155 : BitVec 32 := 1#32
  let v207 : BitVec 32 := Scalar.addi v2 c1_i32_155
  let c32_i32_156 : BitVec 32 := 32#32
  let v208 : BitVec 32 := Scalar.remsi v207 c32_i32_156
  let c1_i32_161 : BitVec 32 := 1#32
  let v210 : BitVec 32 := Scalar.muli v208 c1_i32_161
  let v211 : BitVec 32 := Scalar.addi c0_i32_162 v210
  v211.toNat
def k0_dev33 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v219 : BitVec 32 := Scalar.addi v2 c2_i32_166
  let c32_i32_167 : BitVec 32 := 32#32
  let v220 : BitVec 32 := Scalar.remsi v219 c32_i32_167
  let c1_i32_172 : BitVec 32 := 1#32
  let v222 : BitVec 32 := Scalar.muli v220 c1_i32_172
  let v223 : BitVec 32 := Scalar.addi c0_i32_173 v222
  v223.toNat
def k0_dev34 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_177 : BitVec 32 := 3#32
  let v231 : BitVec 32 := Scalar.addi v2 c3_i32_177
  let c32_i32_178 : BitVec 32 := 32#32
  let v232 : BitVec 32 := Scalar.remsi v231 c32_i32_178
  let c1_i32_183 : BitVec 32 := 1#32
  let v234 : BitVec 32 := Scalar.muli v232 c1_i32_183
  let v235 : BitVec 32 := Scalar.addi c0_i32_184 v234
  v235.toNat
def k0_dev35 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_188 : BitVec 32 := 4#32
  let v243 : BitVec 32 := Scalar.addi v2 c4_i32_188
  let c32_i32_189 : BitVec 32 := 32#32
  let v244 : BitVec 32 := Scalar.remsi v243 c32_i32_189
  let c1_i32_194 : BitVec 32 := 1#32
  let v246 : BitVec 32 := Scalar.muli v244 c1_i32_194
  let v247 : BitVec 32 := Scalar.addi c0_i32_195 v246
  v247.toNat
def k0_dev36 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_199 : BitVec 32 := 5#32
  let v255 : BitVec 32 := Scalar.addi v2 c5_i32_199
  let c32_i32_200 : BitVec 32 := 32#32
  let v256 : BitVec 32 := Scalar.remsi v255 c32_i32_200
  let c1_i32_205 : BitVec 32 := 1#32
  let v258 : BitVec 32 := Scalar.muli v256 c1_i32_205
  let v259 : BitVec 32 := Scalar.addi c0_i32_206 v258
  v259.toNat
def k0_dev37 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_210 : BitVec 32 := 6#32
  let v267 : BitVec 32 := Scalar.addi v2 c6_i32_210
  let c32_i32_211 : BitVec 32 := 32#32
  let v268 : BitVec 32 := Scalar.remsi v267 c32_i32_211
  let c1_i32_216 : BitVec 32 := 1#32
  let v270 : BitVec 32 := Scalar.muli v268 c1_i32_216
  let v271 : BitVec 32 := Scalar.addi c0_i32_217 v270
  v271.toNat
def k0_dev38 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_221 : BitVec 32 := 7#32
  let v279 : BitVec 32 := Scalar.addi v2 c7_i32_221
  let c32_i32_222 : BitVec 32 := 32#32
  let v280 : BitVec 32 := Scalar.remsi v279 c32_i32_222
  let c1_i32_227 : BitVec 32 := 1#32
  let v282 : BitVec 32 := Scalar.muli v280 c1_i32_227
  let v283 : BitVec 32 := Scalar.addi c0_i32_228 v282
  v283.toNat
def k0_dev39 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_232 : BitVec 32 := 8#32
  let v291 : BitVec 32 := Scalar.addi v2 c8_i32_232
  let c32_i32_233 : BitVec 32 := 32#32
  let v292 : BitVec 32 := Scalar.remsi v291 c32_i32_233
  let c1_i32_238 : BitVec 32 := 1#32
  let v294 : BitVec 32 := Scalar.muli v292 c1_i32_238
  let v295 : BitVec 32 := Scalar.addi c0_i32_239 v294
  v295.toNat
def k0_dev40 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_243 : BitVec 32 := 9#32
  let v303 : BitVec 32 := Scalar.addi v2 c9_i32_243
  let c32_i32_244 : BitVec 32 := 32#32
  let v304 : BitVec 32 := Scalar.remsi v303 c32_i32_244
  let c1_i32_249 : BitVec 32 := 1#32
  let v306 : BitVec 32 := Scalar.muli v304 c1_i32_249
  let v307 : BitVec 32 := Scalar.addi c0_i32_250 v306
  v307.toNat
def k0_dev41 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_254 : BitVec 32 := 10#32
  let v315 : BitVec 32 := Scalar.addi v2 c10_i32_254
  let c32_i32_255 : BitVec 32 := 32#32
  let v316 : BitVec 32 := Scalar.remsi v315 c32_i32_255
  let c1_i32_260 : BitVec 32 := 1#32
  let v318 : BitVec 32 := Scalar.muli v316 c1_i32_260
  let v319 : BitVec 32 := Scalar.addi c0_i32_261 v318
  v319.toNat
def k0_dev42 (d0 : Dev nD) : Nat :=
  let c0_i32_272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_265 : BitVec 32 := 11#32
  let v327 : BitVec 32 := Scalar.addi v2 c11_i32_265
  let c32_i32_266 : BitVec 32 := 32#32
  let v328 : BitVec 32 := Scalar.remsi v327 c32_i32_266
  let c1_i32_271 : BitVec 32 := 1#32
  let v330 : BitVec 32 := Scalar.muli v328 c1_i32_271
  let v331 : BitVec 32 := Scalar.addi c0_i32_272 v330
  v331.toNat
def k0_dev43 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_276 : BitVec 32 := 12#32
  let v339 : BitVec 32 := Scalar.addi v2 c12_i32_276
  let c32_i32_277 : BitVec 32 := 32#32
  let v340 : BitVec 32 := Scalar.remsi v339 c32_i32_277
  let c1_i32_282 : BitVec 32 := 1#32
  let v342 : BitVec 32 := Scalar.muli v340 c1_i32_282
  let v343 : BitVec 32 := Scalar.addi c0_i32_283 v342
  v343.toNat
def k0_dev44 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_287 : BitVec 32 := 13#32
  let v351 : BitVec 32 := Scalar.addi v2 c13_i32_287
  let c32_i32_288 : BitVec 32 := 32#32
  let v352 : BitVec 32 := Scalar.remsi v351 c32_i32_288
  let c1_i32_293 : BitVec 32 := 1#32
  let v354 : BitVec 32 := Scalar.muli v352 c1_i32_293
  let v355 : BitVec 32 := Scalar.addi c0_i32_294 v354
  v355.toNat
def k0_dev45 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_298 : BitVec 32 := 14#32
  let v363 : BitVec 32 := Scalar.addi v2 c14_i32_298
  let c32_i32_299 : BitVec 32 := 32#32
  let v364 : BitVec 32 := Scalar.remsi v363 c32_i32_299
  let c1_i32_304 : BitVec 32 := 1#32
  let v366 : BitVec 32 := Scalar.muli v364 c1_i32_304
  let v367 : BitVec 32 := Scalar.addi c0_i32_305 v366
  v367.toNat
def k0_dev46 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_309 : BitVec 32 := 15#32
  let v375 : BitVec 32 := Scalar.addi v2 c15_i32_309
  let c32_i32_310 : BitVec 32 := 32#32
  let v376 : BitVec 32 := Scalar.remsi v375 c32_i32_310
  let c1_i32_315 : BitVec 32 := 1#32
  let v378 : BitVec 32 := Scalar.muli v376 c1_i32_315
  let v379 : BitVec 32 := Scalar.addi c0_i32_316 v378
  v379.toNat
def k0_dev47 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_320 : BitVec 32 := 16#32
  let v387 : BitVec 32 := Scalar.addi v2 c16_i32_320
  let c32_i32_321 : BitVec 32 := 32#32
  let v388 : BitVec 32 := Scalar.remsi v387 c32_i32_321
  let c1_i32_326 : BitVec 32 := 1#32
  let v390 : BitVec 32 := Scalar.muli v388 c1_i32_326
  let v391 : BitVec 32 := Scalar.addi c0_i32_327 v390
  v391.toNat
def k0_dev48 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_331 : BitVec 32 := 17#32
  let v399 : BitVec 32 := Scalar.addi v2 c17_i32_331
  let c32_i32_332 : BitVec 32 := 32#32
  let v400 : BitVec 32 := Scalar.remsi v399 c32_i32_332
  let c1_i32_337 : BitVec 32 := 1#32
  let v402 : BitVec 32 := Scalar.muli v400 c1_i32_337
  let v403 : BitVec 32 := Scalar.addi c0_i32_338 v402
  v403.toNat
def k0_dev49 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_342 : BitVec 32 := 18#32
  let v411 : BitVec 32 := Scalar.addi v2 c18_i32_342
  let c32_i32_343 : BitVec 32 := 32#32
  let v412 : BitVec 32 := Scalar.remsi v411 c32_i32_343
  let c1_i32_348 : BitVec 32 := 1#32
  let v414 : BitVec 32 := Scalar.muli v412 c1_i32_348
  let v415 : BitVec 32 := Scalar.addi c0_i32_349 v414
  v415.toNat
def k0_dev50 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_353 : BitVec 32 := 19#32
  let v423 : BitVec 32 := Scalar.addi v2 c19_i32_353
  let c32_i32_354 : BitVec 32 := 32#32
  let v424 : BitVec 32 := Scalar.remsi v423 c32_i32_354
  let c1_i32_359 : BitVec 32 := 1#32
  let v426 : BitVec 32 := Scalar.muli v424 c1_i32_359
  let v427 : BitVec 32 := Scalar.addi c0_i32_360 v426
  v427.toNat
def k0_dev51 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_364 : BitVec 32 := 20#32
  let v435 : BitVec 32 := Scalar.addi v2 c20_i32_364
  let c32_i32_365 : BitVec 32 := 32#32
  let v436 : BitVec 32 := Scalar.remsi v435 c32_i32_365
  let c1_i32_370 : BitVec 32 := 1#32
  let v438 : BitVec 32 := Scalar.muli v436 c1_i32_370
  let v439 : BitVec 32 := Scalar.addi c0_i32_371 v438
  v439.toNat
def k0_dev52 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_375 : BitVec 32 := 21#32
  let v447 : BitVec 32 := Scalar.addi v2 c21_i32_375
  let c32_i32_376 : BitVec 32 := 32#32
  let v448 : BitVec 32 := Scalar.remsi v447 c32_i32_376
  let c1_i32_381 : BitVec 32 := 1#32
  let v450 : BitVec 32 := Scalar.muli v448 c1_i32_381
  let v451 : BitVec 32 := Scalar.addi c0_i32_382 v450
  v451.toNat
def k0_dev53 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_386 : BitVec 32 := 22#32
  let v459 : BitVec 32 := Scalar.addi v2 c22_i32_386
  let c32_i32_387 : BitVec 32 := 32#32
  let v460 : BitVec 32 := Scalar.remsi v459 c32_i32_387
  let c1_i32_392 : BitVec 32 := 1#32
  let v462 : BitVec 32 := Scalar.muli v460 c1_i32_392
  let v463 : BitVec 32 := Scalar.addi c0_i32_393 v462
  v463.toNat
def k0_dev54 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_397 : BitVec 32 := 23#32
  let v471 : BitVec 32 := Scalar.addi v2 c23_i32_397
  let c32_i32_398 : BitVec 32 := 32#32
  let v472 : BitVec 32 := Scalar.remsi v471 c32_i32_398
  let c1_i32_403 : BitVec 32 := 1#32
  let v474 : BitVec 32 := Scalar.muli v472 c1_i32_403
  let v475 : BitVec 32 := Scalar.addi c0_i32_404 v474
  v475.toNat
def k0_dev55 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_408 : BitVec 32 := 24#32
  let v483 : BitVec 32 := Scalar.addi v2 c24_i32_408
  let c32_i32_409 : BitVec 32 := 32#32
  let v484 : BitVec 32 := Scalar.remsi v483 c32_i32_409
  let c1_i32_414 : BitVec 32 := 1#32
  let v486 : BitVec 32 := Scalar.muli v484 c1_i32_414
  let v487 : BitVec 32 := Scalar.addi c0_i32_415 v486
  v487.toNat
def k0_dev56 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_419 : BitVec 32 := 25#32
  let v495 : BitVec 32 := Scalar.addi v2 c25_i32_419
  let c32_i32_420 : BitVec 32 := 32#32
  let v496 : BitVec 32 := Scalar.remsi v495 c32_i32_420
  let c1_i32_425 : BitVec 32 := 1#32
  let v498 : BitVec 32 := Scalar.muli v496 c1_i32_425
  let v499 : BitVec 32 := Scalar.addi c0_i32_426 v498
  v499.toNat
def k0_dev57 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_430 : BitVec 32 := 26#32
  let v507 : BitVec 32 := Scalar.addi v2 c26_i32_430
  let c32_i32_431 : BitVec 32 := 32#32
  let v508 : BitVec 32 := Scalar.remsi v507 c32_i32_431
  let c1_i32_436 : BitVec 32 := 1#32
  let v510 : BitVec 32 := Scalar.muli v508 c1_i32_436
  let v511 : BitVec 32 := Scalar.addi c0_i32_437 v510
  v511.toNat
def k0_dev58 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_441 : BitVec 32 := 27#32
  let v519 : BitVec 32 := Scalar.addi v2 c27_i32_441
  let c32_i32_442 : BitVec 32 := 32#32
  let v520 : BitVec 32 := Scalar.remsi v519 c32_i32_442
  let c1_i32_447 : BitVec 32 := 1#32
  let v522 : BitVec 32 := Scalar.muli v520 c1_i32_447
  let v523 : BitVec 32 := Scalar.addi c0_i32_448 v522
  v523.toNat
def k0_dev59 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_452 : BitVec 32 := 28#32
  let v531 : BitVec 32 := Scalar.addi v2 c28_i32_452
  let c32_i32_453 : BitVec 32 := 32#32
  let v532 : BitVec 32 := Scalar.remsi v531 c32_i32_453
  let c1_i32_458 : BitVec 32 := 1#32
  let v534 : BitVec 32 := Scalar.muli v532 c1_i32_458
  let v535 : BitVec 32 := Scalar.addi c0_i32_459 v534
  v535.toNat
def k0_dev60 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_463 : BitVec 32 := 29#32
  let v543 : BitVec 32 := Scalar.addi v2 c29_i32_463
  let c32_i32_464 : BitVec 32 := 32#32
  let v544 : BitVec 32 := Scalar.remsi v543 c32_i32_464
  let c1_i32_469 : BitVec 32 := 1#32
  let v546 : BitVec 32 := Scalar.muli v544 c1_i32_469
  let v547 : BitVec 32 := Scalar.addi c0_i32_470 v546
  v547.toNat
def k0_dev61 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_474 : BitVec 32 := 30#32
  let v555 : BitVec 32 := Scalar.addi v2 c30_i32_474
  let c32_i32_475 : BitVec 32 := 32#32
  let v556 : BitVec 32 := Scalar.remsi v555 c32_i32_475
  let c1_i32_480 : BitVec 32 := 1#32
  let v558 : BitVec 32 := Scalar.muli v556 c1_i32_480
  let v559 : BitVec 32 := Scalar.addi c0_i32_481 v558
  v559.toNat
def k0_dev62 (d0 : Dev nD) : Nat :=
  let c0_i32_492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_485 : BitVec 32 := 31#32
  let v567 : BitVec 32 := Scalar.addi v2 c31_i32_485
  let c32_i32_486 : BitVec 32 := 32#32
  let v568 : BitVec 32 := Scalar.remsi v567 c32_i32_486
  let c1_i32_491 : BitVec 32 := 1#32
  let v570 : BitVec 32 := Scalar.muli v568 c1_i32_491
  let v571 : BitVec 32 := Scalar.addi c0_i32_492 v570
  v571.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_744 : BitVec 32 := 16#32
  let v796 : BitVec 32 := Scalar.muli v2 c16_i32_744
  let v797 : Index := Scalar.indexCast v796
  let c0_745 : Index := 0#32
  ![v797.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_755 : BitVec 32 := 16#32
  let v813 : BitVec 32 := Scalar.muli v2 c16_i32_755
  let c0_i32_760 : BitVec 32 := 0#32
  ![v813.toNat, 0]
def k0_dev63 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_752 : BitVec 32 := 1#32
  let v810 : BitVec 32 := Scalar.addi v2 c1_i32_752
  let c32_i32_753 : BitVec 32 := 32#32
  let v811 : BitVec 32 := Scalar.remsi v810 c32_i32_753
  let c1_i32_758 : BitVec 32 := 1#32
  let v814 : BitVec 32 := Scalar.muli v811 c1_i32_758
  let v815 : BitVec 32 := Scalar.addi c0_i32_759 v814
  v815.toNat
def k0_dev64 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_762 : BitVec 32 := 2#32
  let v822 : BitVec 32 := Scalar.addi v2 c2_i32_762
  let c32_i32_763 : BitVec 32 := 32#32
  let v823 : BitVec 32 := Scalar.remsi v822 c32_i32_763
  let c1_i32_768 : BitVec 32 := 1#32
  let v826 : BitVec 32 := Scalar.muli v823 c1_i32_768
  let v827 : BitVec 32 := Scalar.addi c0_i32_769 v826
  v827.toNat
def k0_dev65 (d0 : Dev nD) : Nat :=
  let c0_i32_778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_772 : BitVec 32 := 3#32
  let v834 : BitVec 32 := Scalar.addi v2 c3_i32_772
  let c32_i32_773 : BitVec 32 := 32#32
  let v835 : BitVec 32 := Scalar.remsi v834 c32_i32_773
  let c1_i32_777 : BitVec 32 := 1#32
  let v838 : BitVec 32 := Scalar.muli v835 c1_i32_777
  let v839 : BitVec 32 := Scalar.addi c0_i32_778 v838
  v839.toNat
def k0_dev66 (d0 : Dev nD) : Nat :=
  let c0_i32_787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_781 : BitVec 32 := 4#32
  let v846 : BitVec 32 := Scalar.addi v2 c4_i32_781
  let c32_i32_782 : BitVec 32 := 32#32
  let v847 : BitVec 32 := Scalar.remsi v846 c32_i32_782
  let c1_i32_786 : BitVec 32 := 1#32
  let v850 : BitVec 32 := Scalar.muli v847 c1_i32_786
  let v851 : BitVec 32 := Scalar.addi c0_i32_787 v850
  v851.toNat
def k0_dev67 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_790 : BitVec 32 := 5#32
  let v858 : BitVec 32 := Scalar.addi v2 c5_i32_790
  let c32_i32_791 : BitVec 32 := 32#32
  let v859 : BitVec 32 := Scalar.remsi v858 c32_i32_791
  let c1_i32_795 : BitVec 32 := 1#32
  let v862 : BitVec 32 := Scalar.muli v859 c1_i32_795
  let v863 : BitVec 32 := Scalar.addi c0_i32_796 v862
  v863.toNat
def k0_dev68 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_799 : BitVec 32 := 6#32
  let v870 : BitVec 32 := Scalar.addi v2 c6_i32_799
  let c32_i32_800 : BitVec 32 := 32#32
  let v871 : BitVec 32 := Scalar.remsi v870 c32_i32_800
  let c1_i32_804 : BitVec 32 := 1#32
  let v874 : BitVec 32 := Scalar.muli v871 c1_i32_804
  let v875 : BitVec 32 := Scalar.addi c0_i32_805 v874
  v875.toNat
def k0_dev69 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_808 : BitVec 32 := 7#32
  let v882 : BitVec 32 := Scalar.addi v2 c7_i32_808
  let c32_i32_809 : BitVec 32 := 32#32
  let v883 : BitVec 32 := Scalar.remsi v882 c32_i32_809
  let c1_i32_813 : BitVec 32 := 1#32
  let v886 : BitVec 32 := Scalar.muli v883 c1_i32_813
  let v887 : BitVec 32 := Scalar.addi c0_i32_814 v886
  v887.toNat
def k0_dev70 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_817 : BitVec 32 := 8#32
  let v894 : BitVec 32 := Scalar.addi v2 c8_i32_817
  let c32_i32_818 : BitVec 32 := 32#32
  let v895 : BitVec 32 := Scalar.remsi v894 c32_i32_818
  let c1_i32_822 : BitVec 32 := 1#32
  let v898 : BitVec 32 := Scalar.muli v895 c1_i32_822
  let v899 : BitVec 32 := Scalar.addi c0_i32_823 v898
  v899.toNat
def k0_dev71 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_826 : BitVec 32 := 9#32
  let v906 : BitVec 32 := Scalar.addi v2 c9_i32_826
  let c32_i32_827 : BitVec 32 := 32#32
  let v907 : BitVec 32 := Scalar.remsi v906 c32_i32_827
  let c1_i32_831 : BitVec 32 := 1#32
  let v910 : BitVec 32 := Scalar.muli v907 c1_i32_831
  let v911 : BitVec 32 := Scalar.addi c0_i32_832 v910
  v911.toNat
def k0_dev72 (d0 : Dev nD) : Nat :=
  let c0_i32_841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_835 : BitVec 32 := 10#32
  let v918 : BitVec 32 := Scalar.addi v2 c10_i32_835
  let c32_i32_836 : BitVec 32 := 32#32
  let v919 : BitVec 32 := Scalar.remsi v918 c32_i32_836
  let c1_i32_840 : BitVec 32 := 1#32
  let v922 : BitVec 32 := Scalar.muli v919 c1_i32_840
  let v923 : BitVec 32 := Scalar.addi c0_i32_841 v922
  v923.toNat
def k0_dev73 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_844 : BitVec 32 := 11#32
  let v930 : BitVec 32 := Scalar.addi v2 c11_i32_844
  let c32_i32_845 : BitVec 32 := 32#32
  let v931 : BitVec 32 := Scalar.remsi v930 c32_i32_845
  let c1_i32_849 : BitVec 32 := 1#32
  let v934 : BitVec 32 := Scalar.muli v931 c1_i32_849
  let v935 : BitVec 32 := Scalar.addi c0_i32_850 v934
  v935.toNat
def k0_dev74 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_853 : BitVec 32 := 12#32
  let v942 : BitVec 32 := Scalar.addi v2 c12_i32_853
  let c32_i32_854 : BitVec 32 := 32#32
  let v943 : BitVec 32 := Scalar.remsi v942 c32_i32_854
  let c1_i32_858 : BitVec 32 := 1#32
  let v946 : BitVec 32 := Scalar.muli v943 c1_i32_858
  let v947 : BitVec 32 := Scalar.addi c0_i32_859 v946
  v947.toNat
def k0_dev75 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_862 : BitVec 32 := 13#32
  let v954 : BitVec 32 := Scalar.addi v2 c13_i32_862
  let c32_i32_863 : BitVec 32 := 32#32
  let v955 : BitVec 32 := Scalar.remsi v954 c32_i32_863
  let c1_i32_867 : BitVec 32 := 1#32
  let v958 : BitVec 32 := Scalar.muli v955 c1_i32_867
  let v959 : BitVec 32 := Scalar.addi c0_i32_868 v958
  v959.toNat
def k0_dev76 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_871 : BitVec 32 := 14#32
  let v966 : BitVec 32 := Scalar.addi v2 c14_i32_871
  let c32_i32_872 : BitVec 32 := 32#32
  let v967 : BitVec 32 := Scalar.remsi v966 c32_i32_872
  let c1_i32_876 : BitVec 32 := 1#32
  let v970 : BitVec 32 := Scalar.muli v967 c1_i32_876
  let v971 : BitVec 32 := Scalar.addi c0_i32_877 v970
  v971.toNat
def k0_dev77 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_880 : BitVec 32 := 15#32
  let v978 : BitVec 32 := Scalar.addi v2 c15_i32_880
  let c32_i32_881 : BitVec 32 := 32#32
  let v979 : BitVec 32 := Scalar.remsi v978 c32_i32_881
  let c1_i32_885 : BitVec 32 := 1#32
  let v982 : BitVec 32 := Scalar.muli v979 c1_i32_885
  let v983 : BitVec 32 := Scalar.addi c0_i32_886 v982
  v983.toNat
def k0_dev78 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_889 : BitVec 32 := 16#32
  let v990 : BitVec 32 := Scalar.addi v2 c16_i32_889
  let c32_i32_890 : BitVec 32 := 32#32
  let v991 : BitVec 32 := Scalar.remsi v990 c32_i32_890
  let c1_i32_894 : BitVec 32 := 1#32
  let v994 : BitVec 32 := Scalar.muli v991 c1_i32_894
  let v995 : BitVec 32 := Scalar.addi c0_i32_895 v994
  v995.toNat
def k0_dev79 (d0 : Dev nD) : Nat :=
  let c0_i32_904 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_898 : BitVec 32 := 17#32
  let v1002 : BitVec 32 := Scalar.addi v2 c17_i32_898
  let c32_i32_899 : BitVec 32 := 32#32
  let v1003 : BitVec 32 := Scalar.remsi v1002 c32_i32_899
  let c1_i32_903 : BitVec 32 := 1#32
  let v1006 : BitVec 32 := Scalar.muli v1003 c1_i32_903
  let v1007 : BitVec 32 := Scalar.addi c0_i32_904 v1006
  v1007.toNat
def k0_dev80 (d0 : Dev nD) : Nat :=
  let c0_i32_913 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_907 : BitVec 32 := 18#32
  let v1014 : BitVec 32 := Scalar.addi v2 c18_i32_907
  let c32_i32_908 : BitVec 32 := 32#32
  let v1015 : BitVec 32 := Scalar.remsi v1014 c32_i32_908
  let c1_i32_912 : BitVec 32 := 1#32
  let v1018 : BitVec 32 := Scalar.muli v1015 c1_i32_912
  let v1019 : BitVec 32 := Scalar.addi c0_i32_913 v1018
  v1019.toNat
def k0_dev81 (d0 : Dev nD) : Nat :=
  let c0_i32_922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_916 : BitVec 32 := 19#32
  let v1026 : BitVec 32 := Scalar.addi v2 c19_i32_916
  let c32_i32_917 : BitVec 32 := 32#32
  let v1027 : BitVec 32 := Scalar.remsi v1026 c32_i32_917
  let c1_i32_921 : BitVec 32 := 1#32
  let v1030 : BitVec 32 := Scalar.muli v1027 c1_i32_921
  let v1031 : BitVec 32 := Scalar.addi c0_i32_922 v1030
  v1031.toNat
def k0_dev82 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_925 : BitVec 32 := 20#32
  let v1038 : BitVec 32 := Scalar.addi v2 c20_i32_925
  let c32_i32_926 : BitVec 32 := 32#32
  let v1039 : BitVec 32 := Scalar.remsi v1038 c32_i32_926
  let c1_i32_930 : BitVec 32 := 1#32
  let v1042 : BitVec 32 := Scalar.muli v1039 c1_i32_930
  let v1043 : BitVec 32 := Scalar.addi c0_i32_931 v1042
  v1043.toNat
def k0_dev83 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_934 : BitVec 32 := 21#32
  let v1050 : BitVec 32 := Scalar.addi v2 c21_i32_934
  let c32_i32_935 : BitVec 32 := 32#32
  let v1051 : BitVec 32 := Scalar.remsi v1050 c32_i32_935
  let c1_i32_939 : BitVec 32 := 1#32
  let v1054 : BitVec 32 := Scalar.muli v1051 c1_i32_939
  let v1055 : BitVec 32 := Scalar.addi c0_i32_940 v1054
  v1055.toNat
def k0_dev84 (d0 : Dev nD) : Nat :=
  let c0_i32_949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_943 : BitVec 32 := 22#32
  let v1062 : BitVec 32 := Scalar.addi v2 c22_i32_943
  let c32_i32_944 : BitVec 32 := 32#32
  let v1063 : BitVec 32 := Scalar.remsi v1062 c32_i32_944
  let c1_i32_948 : BitVec 32 := 1#32
  let v1066 : BitVec 32 := Scalar.muli v1063 c1_i32_948
  let v1067 : BitVec 32 := Scalar.addi c0_i32_949 v1066
  v1067.toNat
def k0_dev85 (d0 : Dev nD) : Nat :=
  let c0_i32_958 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_952 : BitVec 32 := 23#32
  let v1074 : BitVec 32 := Scalar.addi v2 c23_i32_952
  let c32_i32_953 : BitVec 32 := 32#32
  let v1075 : BitVec 32 := Scalar.remsi v1074 c32_i32_953
  let c1_i32_957 : BitVec 32 := 1#32
  let v1078 : BitVec 32 := Scalar.muli v1075 c1_i32_957
  let v1079 : BitVec 32 := Scalar.addi c0_i32_958 v1078
  v1079.toNat
def k0_dev86 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_961 : BitVec 32 := 24#32
  let v1086 : BitVec 32 := Scalar.addi v2 c24_i32_961
  let c32_i32_962 : BitVec 32 := 32#32
  let v1087 : BitVec 32 := Scalar.remsi v1086 c32_i32_962
  let c1_i32_966 : BitVec 32 := 1#32
  let v1090 : BitVec 32 := Scalar.muli v1087 c1_i32_966
  let v1091 : BitVec 32 := Scalar.addi c0_i32_967 v1090
  v1091.toNat
def k0_dev87 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_970 : BitVec 32 := 25#32
  let v1098 : BitVec 32 := Scalar.addi v2 c25_i32_970
  let c32_i32_971 : BitVec 32 := 32#32
  let v1099 : BitVec 32 := Scalar.remsi v1098 c32_i32_971
  let c1_i32_975 : BitVec 32 := 1#32
  let v1102 : BitVec 32 := Scalar.muli v1099 c1_i32_975
  let v1103 : BitVec 32 := Scalar.addi c0_i32_976 v1102
  v1103.toNat
def k0_dev88 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_979 : BitVec 32 := 26#32
  let v1110 : BitVec 32 := Scalar.addi v2 c26_i32_979
  let c32_i32_980 : BitVec 32 := 32#32
  let v1111 : BitVec 32 := Scalar.remsi v1110 c32_i32_980
  let c1_i32_984 : BitVec 32 := 1#32
  let v1114 : BitVec 32 := Scalar.muli v1111 c1_i32_984
  let v1115 : BitVec 32 := Scalar.addi c0_i32_985 v1114
  v1115.toNat
def k0_dev89 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_988 : BitVec 32 := 27#32
  let v1122 : BitVec 32 := Scalar.addi v2 c27_i32_988
  let c32_i32_989 : BitVec 32 := 32#32
  let v1123 : BitVec 32 := Scalar.remsi v1122 c32_i32_989
  let c1_i32_993 : BitVec 32 := 1#32
  let v1126 : BitVec 32 := Scalar.muli v1123 c1_i32_993
  let v1127 : BitVec 32 := Scalar.addi c0_i32_994 v1126
  v1127.toNat
def k0_dev90 (d0 : Dev nD) : Nat :=
  let c0_i32_1003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_997 : BitVec 32 := 28#32
  let v1134 : BitVec 32 := Scalar.addi v2 c28_i32_997
  let c32_i32_998 : BitVec 32 := 32#32
  let v1135 : BitVec 32 := Scalar.remsi v1134 c32_i32_998
  let c1_i32_1002 : BitVec 32 := 1#32
  let v1138 : BitVec 32 := Scalar.muli v1135 c1_i32_1002
  let v1139 : BitVec 32 := Scalar.addi c0_i32_1003 v1138
  v1139.toNat
def k0_dev91 (d0 : Dev nD) : Nat :=
  let c0_i32_1012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1006 : BitVec 32 := 29#32
  let v1146 : BitVec 32 := Scalar.addi v2 c29_i32_1006
  let c32_i32_1007 : BitVec 32 := 32#32
  let v1147 : BitVec 32 := Scalar.remsi v1146 c32_i32_1007
  let c1_i32_1011 : BitVec 32 := 1#32
  let v1150 : BitVec 32 := Scalar.muli v1147 c1_i32_1011
  let v1151 : BitVec 32 := Scalar.addi c0_i32_1012 v1150
  v1151.toNat
def k0_dev92 (d0 : Dev nD) : Nat :=
  let c0_i32_1021 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1015 : BitVec 32 := 30#32
  let v1158 : BitVec 32 := Scalar.addi v2 c30_i32_1015
  let c32_i32_1016 : BitVec 32 := 32#32
  let v1159 : BitVec 32 := Scalar.remsi v1158 c32_i32_1016
  let c1_i32_1020 : BitVec 32 := 1#32
  let v1162 : BitVec 32 := Scalar.muli v1159 c1_i32_1020
  let v1163 : BitVec 32 := Scalar.addi c0_i32_1021 v1162
  v1163.toNat
def k0_dev93 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1024 : BitVec 32 := 31#32
  let v1170 : BitVec 32 := Scalar.addi v2 c31_i32_1024
  let c32_i32_1025 : BitVec 32 := 32#32
  let v1171 : BitVec 32 := Scalar.remsi v1170 c32_i32_1025
  let c1_i32_1029 : BitVec 32 := 1#32
  let v1174 : BitVec 32 := Scalar.muli v1171 c1_i32_1029
  let v1175 : BitVec 32 := Scalar.addi c0_i32_1030 v1174
  v1175.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x2 : Shape := ⟨2, ![512, 2]⟩
abbrev S64x256x512 : Shape := ⟨3, ![64, 256, 512]⟩
abbrev S512x64 : Shape := ⟨2, ![512, 64]⟩
abbrev S_ : Shape := ⟨0, ![]⟩
abbrev S512 : Shape := ⟨1, ![512]⟩
abbrev S512x1 : Shape := ⟨2, ![512, 1]⟩
abbrev S512x256x512 : Shape := ⟨3, ![512, 256, 512]⟩
abbrev S512x512 : Shape := ⟨2, ![512, 512]⟩

abbrev nBuf : Space → Nat
  | .hbm => 90
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x2, .i32⟩
  | .hbm, ⟨3, _⟩ => ⟨S64x256x512, .bf16⟩
  | .hbm, ⟨4, _⟩ => ⟨S512x256, .f32⟩
  | .hbm, ⟨5, _⟩ => ⟨S256x64, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S512x64, .f32⟩
  | .hbm, ⟨17, _⟩ => ⟨S512x64, .f32⟩
  | .hbm, ⟨18, _⟩ => ⟨S512x1, .i32⟩
  | .hbm, ⟨19, _⟩ => ⟨S512, .i32⟩
  | .hbm, ⟨20, _⟩ => ⟨S512x1, .i32⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S_, .i32⟩
  | .hbm, ⟨31, _⟩ => ⟨S512, .i32⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S512x1, .i32⟩
  | .hbm, ⟨39, _⟩ => ⟨S512x2, .i32⟩
  | .hbm, ⟨40, _⟩ => ⟨S512, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S_, .i32⟩
  | .hbm, ⟨49, _⟩ => ⟨S512, .i32⟩
  | .hbm, ⟨50, _⟩ => ⟨S512, .i1⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S512, .i32⟩
  | .hbm, ⟨55, _⟩ => ⟨S512x1, .i32⟩
  | .hbm, ⟨56, _⟩ => ⟨S512x1, .i32⟩
  | .hbm, ⟨57, _⟩ => ⟨S512x2, .i32⟩
  | .hbm, ⟨58, _⟩ => ⟨S512, .f32⟩
  | .hbm, ⟨59, _⟩ => ⟨S512, .f32⟩
  | .hbm, ⟨60, _⟩ => ⟨S64x256x512, .f32⟩
  | .hbm, ⟨61, _⟩ => ⟨S_, .i32⟩
  | .hbm, ⟨62, _⟩ => ⟨S512, .i32⟩
  | .hbm, ⟨63, _⟩ => ⟨S512, .i1⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S512x256x512, .f32⟩
  | .hbm, ⟨70, _⟩ => ⟨S512x512, .f32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S512x256x512, .f32⟩
  | .hbm, ⟨80, _⟩ => ⟨S512x512, .f32⟩
  | .hbm, ⟨81, _⟩ => ⟨S512, .f32⟩
  | .hbm, ⟨82, _⟩ => ⟨S512x1, .f32⟩
  | .hbm, ⟨83, _⟩ => ⟨S512x512, .f32⟩
  | .hbm, ⟨84, _⟩ => ⟨S512x512, .f32⟩
  | .hbm, ⟨85, _⟩ => ⟨S512, .f32⟩
  | .hbm, ⟨86, _⟩ => ⟨S512x1, .f32⟩
  | .hbm, ⟨87, _⟩ => ⟨S512x512, .f32⟩
  | .hbm, ⟨88, _⟩ => ⟨S512x512, .f32⟩
  | .hbm, ⟨89, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Looped.lean ====
/-
The kernel body with its six unrolled loops folded.

Each of the kernel's `for r in range(1, 32)` loops is printed unrolled, thirty-one times the same operations. Here
the loop is a program over `r : Fin 31` run by `eachFin`, so that a proof treats one turn. The peer a turn names is
`peer d r`, the device `r + 1` places further round the ring.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Moe

open Cert.KernelIdeal Cert.KernelIdeal.Gen
open Idealize.ShloMosaic Idealize.ShloMosaic.TcCoe
open Idealize.SL.Sem

variable {F : FTy → Type} [FloatOps F]

/-- The effects of the kernel's programs. -/
abbrev KEff (F : FTy → Type) := TpuEff nD τ sig (Elt F) Λ₀ .tc

/-- The programs `f 0`, `f 1`, …, `f (n - 1)` in turn. -/
def eachFin : (n : ℕ) → (Fin n → Prog (KEff F) PUnit) → Prog (KEff F) PUnit
  | 0, _ => pure ⟨⟩
  | n + 1, f => do
    f 0
    eachFin n (fun i => f i.succ)

/-- The word the kernel computes for the device `r + 1` places after `d`. -/
def peerN (d : Dev nD) (r : Fin 31) : ℕ :=
  (Scalar.addi 0#32 (Scalar.muli (Scalar.remsi (Scalar.addi (Scalar.remsi (Scalar.divsi (Dev.word d) 1#32) 32#32)
    (BitVec.ofNat 32 (1 + r.val))) 32#32) 1#32)).toNat

theorem peerN_eq : ∀ (d : Dev nD) (r : Fin 31), peerN d r = (d.val + r.val + 1) % 32 := by decide +kernel
theorem peerN_lt (d : Dev nD) (r : Fin 31) : peerN d r < nD := by
  rw [peerN_eq]; exact Nat.mod_lt _ (by decide)

/-- The device `r + 1` places after `d` on the ring. -/
def peer (d : Dev nD) (r : Fin 31) : Dev nD := ⟨peerN d r, peerN_lt d r⟩

theorem slot_inb (r : Fin 31) : ∀ a, (![r.val, 0, 0] : Fin 3 → ℕ) a + S1x16x512.size a ≤ S31x16x512.size a := by
  revert r; decide
theorem slot_words (r : Fin 31) :
    (Rect.unit (s := S31x16x512) ![r.val, 0, 0] S1x16x512.size (slot_inb r)).WholeWords (EltTy.packing .bf16) := by
  revert r; decide +kernel
theorem sem_inb (k : Fin 62) : ∀ a, (![k.val] : Fin 1 → ℕ) a + S1.size a ≤ S62.size a := by
  revert k; decide

/-- A turn's index in the semaphore arrays: the reduce-scatter's thirty-one come first. -/
def rsIx (r : Fin 31) : Fin 62 := ⟨r.val, by omega⟩
/-- The all-gather's follow. -/
def agIx (r : Fin 31) : Fin 62 := ⟨31 + r.val, by omega⟩

/-- Semaphore `k` of an array of 62. -/
def semAt (a : DmaSems sig S62) (k : Fin 62) : DmaSem sig :=
  ((a.slice (Rect.unit (s := S62) ![k.val] S1.size (sem_inb k))).squeeze S_ squeezes_S1_S_).sem

/-- The runtime's barrier semaphore. -/
abbrev barS : Sem sig := (SemArray.scalar (sig.barrier 0 rfl) : Sems sig S_).sem

section Body

variable (arg0 : Memref sig .tc .vmem S512x256 .bf16) (harg0 : arg0.IsWhole) (arg1 : Memref sig .tc .vmem S256x64 .bf16) (harg1 : arg1.IsWhole)
  (arg2 : Memref sig .tc .vmem S512x2 .i32) (harg2 : arg2.IsWhole) (arg3 : Memref sig .tc .vmem S2x256x512 .bf16) (harg3 : arg3.IsWhole)
  (arg4 : Memref sig .tc .vmem S512x512 .f32) (harg4 : arg4.IsWhole) (arg5 : Memref sig .tc .vmem S512x512 .bf16) (harg5 : arg5.IsWhole)
  (arg6 : Memref sig .tc .vmem S31x16x512 .bf16) (harg6 : arg6.IsWhole) (arg7 : Memref sig .tc .vmem S512x512 .bf16) (harg7 : arg7.IsWhole)
  (arg8 : DmaSems sig S62) (arg9 : DmaSems sig S62) (d : Dev nD)

/-- The staged rows of the peer of turn `r`. -/
abbrev stageRows (r : Fin 31) : Memref sig .tc .vmem S16x512 .bf16 :=
  arg5.slice (Rect.unit (s := S512x512) (k0_off1 d (BitVec.ofNat 32 (1 + r.val))) S16x512.size (k0_off1_inb d r)) (fun _ => rfl)
/-- Slot `r` of the receive buffer. -/
abbrev slotRows (r : Fin 31) : Memref sig .tc .vmem S16x512 .bf16 :=
  (arg6.slice (Rect.unit (s := S31x16x512) ![r.val, 0, 0] S1x16x512.size (slot_inb r)) (fun _ => rfl)).squeeze S16x512 squeezes_S1x16x512_S16x512
/-- The device's own rows of the gather buffer. -/
abbrev ownRows : Memref sig .tc .vmem S16x512 .bf16 :=
  arg7.slice (Rect.unit (s := S512x512) (k0_off3 d) S16x512.size (k0_off3_inb d)) (fun _ => rfl)

/-- The entry signal of turn `r`. -/
def signalP (r : Fin 31) : Prog (KEff F) PUnit := semSignalWord (peer d r) barS 1#32

/-- The reduce-scatter's transfer of turn `r`. -/
def rsSendP (r : Fin 31) : Prog (KEff F) PUnit :=
  Prog.lift (.enqueueDma (stageRows arg5 d r) (.remote (Dev.tc (peer d r)) (slotRows arg6 r) (.dma (semAt arg8 (rsIx r)))) (.dma (semAt arg9 (rsIx r)))
    (harg5.wordExact_slice rfl _ (k0_off1_wordsbf16 d r)) ((harg6.wordExact_slice rfl _ (slot_words r)).reshape _ _) ⟨⟨rfl, Or.inl rfl⟩, trivial⟩)
/-- The wait for slot `r`. -/
def rsRecvP (r : Fin 31) : Prog (KEff F) PUnit :=
  Prog.lift (.waitDma2 (semAt arg9 (rsIx r)) (stageRows arg5 d r) (slotRows arg6 r)
    (harg5.wordExact_slice rfl _ (k0_off1_wordsbf16 d r)) ((harg6.wordExact_slice rfl _ (slot_words r)).reshape _ _))
/-- The wait for the reduce-scatter's own transfer of turn `r`. -/
def rsDoneP (r : Fin 31) : Prog (KEff F) PUnit :=
  Prog.lift (.waitDma2 (semAt arg8 (rsIx r)) (slotRows arg6 r) (stageRows arg5 d r)
    ((harg6.wordExact_slice rfl _ (slot_words r)).reshape _ _) (harg5.wordExact_slice rfl _ (k0_off1_wordsbf16 d r)))
/-- The all-gather's transfer of turn `r`. -/
def agSendP (r : Fin 31) : Prog (KEff F) PUnit :=
  Prog.lift (.enqueueDma (ownRows arg7 d) (.remote (Dev.tc (peer d r)) (ownRows arg7 d) (.dma (semAt arg8 (agIx r)))) (.dma (semAt arg9 (agIx r)))
    (harg7.wordExact_slice rfl _ (k0_off3_wordsbf16 d)) (harg7.wordExact_slice rfl _ (k0_off3_wordsbf16 d)) ⟨⟨rfl, Or.inl rfl⟩, trivial⟩)
/-- The wait for the gathered rows of turn `r`; -/
def agRecvP (r : Fin 31) : Prog (KEff F) PUnit :=
  Prog.lift (.waitDma2 (semAt arg9 (agIx r)) (ownRows arg7 d) (ownRows arg7 d)
    (harg7.wordExact_slice rfl _ (k0_off3_wordsbf16 d)) (harg7.wordExact_slice rfl _ (k0_off3_wordsbf16 d)))
/-- and for the all-gather's own transfer. -/
def agDoneP (r : Fin 31) : Prog (KEff F) PUnit :=
  Prog.lift (.waitDma2 (semAt arg8 (agIx r)) (ownRows arg7 d) (ownRows arg7 d)
    (harg7.wordExact_slice rfl _ (k0_off3_wordsbf16 d)) (harg7.wordExact_slice rfl _ (k0_off3_wordsbf16 d)))

/-- What a device stages: its two experts' gated products, every row, from the tokens, the router's weights, the two
    columns of expert numbers and the two experts' weights. -/
def stagePay (v128 : Vec F S512x256 .bf16) (v130 : Vec F S256x64 .bf16) (v138 v140 : Vec F S512x1 .i32) (v197 v199 : Vec F S1x256x512 .bf16) : FVec F S512x512 .bf16 :=
  k0_pay9 (k0_pay6 (Scalar.remsi (Scalar.divsi (Dev.word d) 1#32) 32#32) (k0_pay1 v128) (k0_pay2 v128 v130) (k0_pay3 (F := F) v138) (k0_pay4 (F := F) v140)
    (iota .tc S512x64 32 [1] iota_S512x64_d1_w32) (k0_pay5 v128 v130 v138 v140) 2#32) (k0_pay7 v197) (k0_pay8 v199)

/-- The kernel body after the device's number is read, its loops folded. -/
def loopedP : Prog (KEff F) PUnit := do
  eachFin 31 (signalP d)
  let v128 : Vec F S512x256 .bf16 ← Prog.lift (.load arg0 (Rect.unit (s := S512x256) ![0, 0] S512x256.size inb_S512x256_S512x256_0_0).toLoadRect (View.loadsAt_vmem h_S512x256))
  let v130 : Vec F S256x64 .bf16 ← Prog.lift (.load arg1 (Rect.unit (s := S256x64) ![0, 0] S256x64.size inb_S256x64_S256x64_0_0).toLoadRect (View.loadsAt_vmem h_S256x64))
  let v138 : Vec F S512x1 .i32 ← Prog.lift (.load arg2 (Rect.unit (s := S512x2) ![0, 0] S512x1.size inb_S512x2_S512x1_0_0).toLoadRect (View.loadsAt_vmem h_S512x1))
  let v140 : Vec F S512x1 .i32 ← Prog.lift (.load arg2 (Rect.unit (s := S512x2) ![0, 1] S512x1.size inb_S512x2_S512x1_0_1).toLoadRect (View.loadsAt_vmem h_S512x1))
  let v197 : Vec F S1x256x512 .bf16 ← Prog.lift (.load arg3 (Rect.unit (s := S2x256x512) ![0, 0, 0] S1x256x512.size inb_S2x256x512_S1x256x512_0_0_0).toLoadRect (View.loadsAt_vmem h_S1x256x512))
  let v199 : Vec F S1x256x512 .bf16 ← Prog.lift (.load arg3 (Rect.unit (s := S2x256x512) ![1, 0, 0] S1x256x512.size inb_S2x256x512_S1x256x512_1_0_0).toLoadRect (View.loadsAt_vmem h_S1x256x512))
  let _v204 : Vec F S512x512 .bf16 ← Prog.lift (.load arg5 (Rect.unit (s := S512x512) ![0, 0] S512x512.size inb_S512x512_S512x512_0_0).toLoadRect (View.loadsAt_vmem h_S512x512))
  Prog.lift (.store arg5 (Rect.unit (s := S512x512) ![0, 0] S512x512.size inb_S512x512_S512x512_0_0) (stagePay d v128 v130 v138 v140 v197 v199) Finset.univ
    (View.stores_vmem h_S512x512 (harg5.storeExact_slice rfl _ packedbf16_S512x512_S512x512_0_0) (fun _ => rfl)) (.inl rfl))
  semWaitWord barS 31#32
  eachFin 31 (rsSendP arg5 harg5 arg6 harg6 arg8 arg9 d)
  eachFin 31 (rsRecvP arg5 harg5 arg6 harg6 arg9 d)
  let v798 : Vec F S16x512 .bf16 ← Prog.lift (.load arg5 (Rect.unit (s := S512x512) (k0_off2 d) S16x512.size (k0_off2_inb d)).toLoadRect (View.loadsAt_vmem h_S16x512))
  let v800 : Vec F S31x16x512 .bf16 ← Prog.lift (.load arg6 (Rect.unit (s := S31x16x512) ![0, 0, 0] S31x16x512.size inb_S31x16x512_S31x16x512_0_0_0).toLoadRect (View.loadsAt_vmem h_S31x16x512))
  let _v807 : Vec F S16x512 .bf16 ← Prog.lift (.load arg7 (Rect.unit (s := S512x512) (k0_off2 d) S16x512.size (k0_off2_inb d)).toLoadRect (View.loadsAt_vmem h_S16x512))
  Prog.lift (.store arg7 (Rect.unit (s := S512x512) (k0_off2 d) S16x512.size (k0_off2_inb d)) (k0_pay11 (k0_pay10 v798) v800) Finset.univ
    (View.stores_vmem h_S16x512 (harg7.storeExact_slice rfl _ (k0_off2_packedbf16 d)) (fun _ => rfl)) (.inl rfl))
  eachFin 31 (agSendP arg7 harg7 arg8 arg9 d)
  eachFin 31 (agRecvP arg7 harg7 arg9 d)
  let v1368 : Vec F S512x512 .bf16 ← Prog.lift (.load arg7 (Rect.unit (s := S512x512) ![0, 0] S512x512.size inb_S512x512_S512x512_0_0).toLoadRect (View.loadsAt_vmem h_S512x512))
  let _v1370 : Vec F S512x512 .f32 ← Prog.lift (.load arg4 (Rect.unit (s := S512x512) ![0, 0] S512x512.size inb_S512x512_S512x512_0_0).toLoadRect (View.loadsAt_vmem h_S512x512))
  Prog.lift (.store arg4 (Rect.unit (s := S512x512) ![0, 0] S512x512.size inb_S512x512_S512x512_0_0) (k0_pay12 v1368) Finset.univ
    (View.stores_vmem_bits_univ h_S512x512 rfl) (.inl rfl))
  eachFin 31 (rsDoneP arg5 harg5 arg6 harg6 arg8 d)
  eachFin 31 (agDoneP arg7 harg7 arg8 d)

end Body

set_option maxRecDepth 65536 in
set_option maxHeartbeats 4000000 in
/-- The printed body is the folded one. -/
theorem body_eq_looped (arg0 : Memref sig .tc .vmem S512x256 .bf16) (harg0 : arg0.IsWhole) (arg1 : Memref sig .tc .vmem S256x64 .bf16) (harg1 : arg1.IsWhole)
    (arg2 : Memref sig .tc .vmem S512x2 .i32) (harg2 : arg2.IsWhole) (arg3 : Memref sig .tc .vmem S2x256x512 .bf16) (harg3 : arg3.IsWhole)
    (arg4 : Memref sig .tc .vmem S512x512 .f32) (harg4 : arg4.IsWhole) (arg5 : Memref sig .tc .vmem S512x512 .bf16) (harg5 : arg5.IsWhole)
    (arg6 : Memref sig .tc .vmem S31x16x512 .bf16) (harg6 : arg6.IsWhole) (arg7 : Memref sig .tc .vmem S512x512 .bf16) (harg7 : arg7.IsWhole)
    (arg8 : DmaSems sig S62) (arg9 : DmaSems sig S62) :
    cc0_body (F := F) arg0 harg0 arg1 harg1 arg2 harg2 arg3 harg3 arg4 harg4 arg5 harg5 arg6 harg6 arg7 harg7 arg8 arg9
      = (Prog.lift .deviceId >>= fun d => loopedP arg0 arg1 arg2 arg3 arg4 arg5 harg5 arg6 harg6 arg7 harg7 arg8 arg9 d : Prog (KEff F) PUnit) := by
  chain_rfl

end Cert.Moe

end
-- ==== Proof.Ring.lean ====
/-
Where the kernel's transfers go: the ring of thirty-two devices, the blocks of sixteen rows that the staging and the
gather buffer are cut into, the slots of the receive buffer, and the semaphores.
-/
module

public import proofs.«01_k».proof.Proof.Looped

@[expose] public section

noncomputable section

namespace Cert.Moe

open Cert.KernelIdeal Cert.KernelIdeal.Gen
open Idealize.ShloMosaic Idealize.ShloMosaic.TcCoe
open Idealize.SL.Sem

/-! ## The ring -/

theorem peer_val (d : Dev nD) (r : Fin 31) : (peer d r).val = (d.val + r.val + 1) % 32 := peerN_eq d r

/-- Going on by the complementary number of places comes back. -/
theorem peer_rev (d : Dev nD) (r : Fin 31) : peer (peer d r) r.rev = d := by
  apply Fin.ext; rw [peer_val, peer_val, Fin.val_rev]
  have h1 : d.val < 32 := d.isLt; have := r.isLt; omega

theorem peer_rev' (d : Dev nD) (r : Fin 31) : peer (peer d r.rev) r = d := by
  have := peer_rev d r.rev; rwa [Fin.rev_rev] at this

theorem peer_ne (d : Dev nD) (r : Fin 31) : peer d r ≠ d := fun h => by
  have := congrArg Fin.val h; rw [peer_val] at this
  have h1 : d.val < 32 := d.isLt; have := r.isLt; omega

theorem peer_inj (d : Dev nD) {r r' : Fin 31} (h : peer d r = peer d r') : r = r' := by
  have := congrArg Fin.val h; rw [peer_val, peer_val] at this
  have h1 : d.val < 32 := d.isLt; have := r.isLt; have := r'.isLt; exact Fin.ext (by omega)

/-- Going `r + 1` places round, as a permutation of the devices. -/
def shift (r : Fin 31) : Dev nD ≃ Dev nD := ⟨fun d => peer d r, fun d => peer d r.rev, fun d => peer_rev d r, fun d => peer_rev' d r⟩

/-- The device that turn `r` of device `d` hears from: the one whose turn-`r` peer is `d`. -/
def from' (d : Dev nD) (r : Fin 31) : Dev nD := peer d r.rev
theorem peer_from (d : Dev nD) (r : Fin 31) : peer (from' d r) r = d := peer_rev' d r
theorem from_peer (d : Dev nD) (r : Fin 31) : from' (peer d r) r = d := peer_rev d r

/-- The device itself, and the thirty-one others by turn. -/
def everyone (d : Dev nD) : Option (Fin 31) ≃ Dev nD :=
  Equiv.ofBijective (fun o => o.elim d (peer d)) ⟨by
    rintro (_ | r) (_ | r') h
    · rfl
    · exact absurd (show d = peer d r' from h).symm (peer_ne d r')
    · exact absurd (show peer d r = d from h) (peer_ne d r)
    · exact congrArg some (peer_inj d h), fun t => by
    by_cases h : t = d
    · exact ⟨none, h.symm⟩
    · refine ⟨some ⟨(t.val + 31 - d.val) % 32, ?_⟩, ?_⟩
      · have h1 : d.val < 32 := d.isLt; have h2 : t.val < 32 := t.isLt
        have : t.val ≠ d.val := fun e => h (Fin.ext e)
        omega
      · apply Fin.ext
        show (peer d _).val = _
        rw [peer_val]
        have h1 : d.val < 32 := d.isLt; have h2 : t.val < 32 := t.isLt
        show (d.val + (t.val + 31 - d.val) % 32 + 1) % 32 = t.val
        omega⟩

theorem everyone_none (d : Dev nD) : everyone d none = d := rfl
theorem everyone_some (d : Dev nD) (r : Fin 31) : everyone d (some r) = peer d r := rfl

/-- The device itself, and the thirty-one others by the turn that hears from them. -/
def everyoneFrom (d : Dev nD) : Option (Fin 31) ≃ Dev nD := (Equiv.optionCongr Fin.revPerm).trans (everyone d)

theorem everyoneFrom_none (d : Dev nD) : everyoneFrom d none = d := rfl
theorem everyoneFrom_some (d : Dev nD) (r : Fin 31) : everyoneFrom d (some r) = from' d r := rfl

/-! ## Blocks of rows and slots -/

theorem row_inb (t : Dev nD) : ∀ a, (![16 * t.val, 0] : Fin 2 → ℕ) a + S16x512.size a ≤ S512x512.size a := by
  revert t; decide

/-- The sixteen rows that belong to device `t`. -/
abbrev rowRect (t : Dev nD) : Rect S512x512 := Rect.unit (s := S512x512) ![16 * t.val, 0] S16x512.size (row_inb t)

/-- Slot `r` of the receive buffer. -/
abbrev slotRect (r : Fin 31) : Rect S31x16x512 := Rect.unit (s := S31x16x512) ![r.val, 0, 0] S1x16x512.size (slot_inb r)

theorem rows_disjoint (t t' : Dev nD) (h : t ≠ t') : Disjoint (rowRect t).set (rowRect t').set := by
  refine Rect.unit_disjoint 0 ?_
  have : t.val ≠ t'.val := fun e => h (Fin.ext e)
  show 16 * t.val + 16 ≤ 16 * t'.val ∨ 16 * t'.val + 16 ≤ 16 * t.val
  omega

theorem rows_cover : (Finset.univ : Finset (Dev nD)).biUnion (fun t => (rowRect t).set) = Finset.univ := by
  refine Finset.eq_univ_of_forall fun i => ?_
  have h0 : (i 0).val < 512 := (i 0).isLt
  have h1 : (i 1).val < 512 := (i 1).isLt
  refine Finset.mem_biUnion.mpr ⟨⟨(i 0).val / 16, by show _ < 32; omega⟩, Finset.mem_univ _, ?_⟩
  refine Rect.mem_set_unit.mpr fun a => ?_
  match a with
  | ⟨0, _⟩ => exact ⟨by show 16 * ((i 0).val / 16) ≤ (i 0).val; omega, by show (i 0).val < 16 * ((i 0).val / 16) + 16; omega⟩
  | ⟨1, _⟩ => exact ⟨by show 0 ≤ (i 1).val; omega, by show (i 1).val < 0 + 512; omega⟩

theorem slots_disjoint (r r' : Fin 31) (h : r ≠ r') : Disjoint (slotRect r).set (slotRect r').set := by
  refine Rect.unit_disjoint 0 ?_
  have : r.val ≠ r'.val := fun e => h (Fin.ext e)
  show r.val + 1 ≤ r'.val ∨ r'.val + 1 ≤ r.val
  omega

theorem slots_cover : (Finset.univ : Finset (Fin 31)).biUnion (fun r => (slotRect r).set) = Finset.univ := by
  refine Finset.eq_univ_of_forall fun i => ?_
  have h0 : (i 0).val < 31 := (i 0).isLt
  have h1 : (i 1).val < 16 := (i 1).isLt
  have h2 : (i 2).val < 512 := (i 2).isLt
  refine Finset.mem_biUnion.mpr ⟨⟨(i 0).val, h0⟩, Finset.mem_univ _, ?_⟩
  refine Rect.mem_set_unit.mpr fun a => ?_
  match a with
  | ⟨0, _⟩ => exact ⟨by show (i 0).val ≤ (i 0).val; omega, by show (i 0).val < (i 0).val + 1; omega⟩
  | ⟨1, _⟩ => exact ⟨by show 0 ≤ (i 1).val; omega, by show (i 1).val < 0 + 16; omega⟩
  | ⟨2, _⟩ => exact ⟨by show 0 ≤ (i 2).val; omega, by show (i 2).val < 0 + 512; omega⟩

theorem slice_unit_congr {κ : Kind} {sp : Space} {s : Shape} {e : EltTy} (M : Memref sig κ sp s e) {o o' sz : Fin s.rank → ℕ} (h : o = o')
    (i : ∀ a, o a + sz a ≤ s.size a) (i' : ∀ a, o' a + sz a ≤ s.size a) :
    M.slice (Rect.unit (s := s) o sz i) (fun _ => rfl) = M.slice (Rect.unit (s := s) o' sz i') (fun _ => rfl) := by
  subst h; rfl

theorem off2_eq : ∀ d : Dev nD, k0_off2 d = ![16 * d.val, 0] := by decide +kernel
theorem off3_eq : ∀ d : Dev nD, k0_off3 d = ![16 * d.val, 0] := by decide +kernel
theorem off1_eq (d : Dev nD) (r : Fin 31) : k0_off1 d (BitVec.ofNat 32 (1 + r.val)) = ![16 * (peer d r).val, 0] := by
  rw [k0_off1_eq d r, peer_val]

theorem stageRows_eq (M : Memref sig .tc .vmem S512x512 .bf16) (d : Dev nD) (r : Fin 31) :
    stageRows M d r = M.slice (rowRect (peer d r)) (fun _ => rfl) := slice_unit_congr M (off1_eq d r) _ _
theorem ownRows_eq (M : Memref sig .tc .vmem S512x512 .bf16) (d : Dev nD) :
    ownRows M d = M.slice (rowRect d) (fun _ => rfl) := slice_unit_congr M (off3_eq d) _ _
theorem off2_rect (d : Dev nD) : Rect.unit (s := S512x512) (k0_off2 d) S16x512.size (k0_off2_inb d) = rowRect d := by
  have : ∀ {o o' : Fin 2 → ℕ} (h : o = o') (i : ∀ a, o a + S16x512.size a ≤ S512x512.size a) (i' : ∀ a, o' a + S16x512.size a ≤ S512x512.size a),
      Rect.unit (s := S512x512) o S16x512.size i = Rect.unit (s := S512x512) o' S16x512.size i' := fun h _ _ => by subst h; rfl
  exact this (off2_eq d) _ _

/-! ## The memrefs and the semaphores -/

abbrev stM : Memref sig .tc .vmem S512x512 .bf16 := Memref.whole cc0_scratch0
abbrev rvM : Memref sig .tc .vmem S31x16x512 .bf16 := Memref.whole cc0_scratch1
abbrev gaM : Memref sig .tc .vmem S512x512 .bf16 := Memref.whole cc0_scratch2

/-- Rows of the staging buffer, slots of the receive buffer, rows of the gather buffer. -/
abbrev stRow (t : Dev nD) : Memref sig .tc .vmem S16x512 .bf16 := stM.slice (rowRect t) (fun _ => rfl)
abbrev rvSlot (r : Fin 31) : Memref sig .tc .vmem S16x512 .bf16 := slotRows rvM r
abbrev gaRow (t : Dev nD) : Memref sig .tc .vmem S16x512 .bf16 := gaM.slice (rowRect t) (fun _ => rfl)

/-- The send and the receive semaphores. -/
abbrev sendAt (k : Fin 62) : DmaSem sig := semAt cc0_scratch3 k
abbrev recvAt (k : Fin 62) : DmaSem sig := semAt cc0_scratch4 k

theorem sendAt_val : ∀ k : Fin 62, (sendAt k).val = 5 + k.val := by decide +kernel
theorem recvAt_val : ∀ k : Fin 62, (recvAt k).val = 67 + k.val := by decide +kernel

/-- The bytes one transfer moves, as its semaphores count them. -/
abbrev N : ℕ := (rvSlot 0).view.dmaCredit
theorem N_pos : 0 < N := View.dmaCredit_pos _ (by decide)
theorem credit_slot (r : Fin 31) : (rvSlot r).view.dmaCredit = N := rfl
theorem credit_st (t : Dev nD) : (stRow t).view.dmaCredit = N := rfl
theorem credit_ga (t : Dev nD) : (gaRow t).view.dmaCredit = N := rfl

end Cert.Moe

end
-- ==== Proof.Memory.lean ====
/-
The buffers cut into blocks of rows and into slots and put together again, a share lent out thirty-one times, and the
program rules for loads, stores and transfers on memrefs owned at named contents.
-/
module

public import proofs.«01_k».proof.Proof.Ring
public import Idealize.ShloMosaic.Lib.Rounds
public import Idealize.ShloMosaic.Lib.Memref
public import Idealize.ShloMosaic.Lib.MemrefSat
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra -/

/-- The exchange's ghost state beside the pipeline library's: a cell's duties are numbered by turns. -/
abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program on device `c`'s core. -/
abbrev WP (c : Dev nD) {α : Type} (p : Prog (KEff F) α) (Q : α → sProp 𝕄) : sProp 𝕄 :=
  wp frame (wpE (defs₀ (F := F)) 𝒱₀ (c : Thread nD τ) none) Set.univ p Q

/-- A memref of device `c`, owned at share `q` with contents `X`. -/
abbrev own (c : Dev nD) {sp : Space} {s : Shape} {e : EltTy} (M : Memref sig .tc sp s e) (q : PosShare TreeShare) (X : s.Idx → Elt F e) : sProp 𝕄 :=
  owns (Ix := Unit) (Name := ℕ) (U := UU) (Lvl := ℕ) (c : Thread nD τ) M q X

/-- The part of an array a rectangle selects. -/
def part {s : Shape} {β : Type} (r : Rect s) (X : s.Idx → β) : r.shape.Idx → β := fun j => X (r.emb j)

/-- A family of blocks of sixteen rows as one array. -/
def joinRows {β : Type} (G : Dev nD → S16x512.Idx → β) : S512x512.Idx → β := fun i =>
  G ⟨(i 0).val / 16, by have : (i 0).val < 512 := (i 0).isLt; show _ < 32; omega⟩
    (ix2 (⟨(i 0).val % 16, Nat.mod_lt _ (by decide)⟩ : Fin 16) (⟨(i 1).val, (i 1).isLt⟩ : Fin 512))

/-- A family of slots as one array. -/
def joinSlots {β : Type} (G : Fin 31 → S16x512.Idx → β) : S31x16x512.Idx → β := fun i =>
  G ⟨(i 0).val, (i 0).isLt⟩ (ix2 (⟨(i 1).val, (i 1).isLt⟩ : Fin 16) (⟨(i 2).val, (i 2).isLt⟩ : Fin 512))

/-- Slot `r` of an array of slots. -/
def slotOf {β : Type} (r : Fin 31) (X : S31x16x512.Idx → β) : S16x512.Idx → β := fun j =>
  X ((slotRect r).emb ((Shape.reshapeEquiv (Shape.Squeezes.numel_eq squeezes_S1x16x512_S16x512)) j))

theorem rowRect_val (t : Dev nD) (j : S16x512.Idx) : (((rowRect t).emb j) 0).val = 16 * t.val + (j 0).val ∧ (((rowRect t).emb j) 1).val = (j 1).val := by
  constructor
  · rw [Rect.emb_apply]; show 16 * t.val + 1 * (j 0).val = _; omega
  · rw [Rect.emb_apply]; show 0 + 1 * (j 1).val = _; omega

theorem part_joinRows {β : Type} (G : Dev nD → S16x512.Idx → β) (t : Dev nD) : part (rowRect t) (joinRows G) = G t := by
  funext j
  have h0 : (j 0).val < 16 := (j 0).isLt
  obtain ⟨e0, e1⟩ := rowRect_val t j
  unfold part joinRows
  congr 1
  · apply Fin.ext; show (((rowRect t).emb j) 0).val / 16 = t.val; omega
  · funext a
    match a with
    | ⟨0, _⟩ => apply Fin.ext; show (((rowRect t).emb j) 0).val % 16 = (j 0).val; omega
    | ⟨1, _⟩ => apply Fin.ext; exact e1

theorem slotOf_joinSlots {β : Type} (G : Fin 31 → S16x512.Idx → β) (r : Fin 31) : slotOf r (joinSlots G) = G r := by
  funext j
  obtain ⟨x, y, rfl⟩ : ∃ (x : Fin 16) (y : Fin 512), j = ix2 x y := ⟨j 0, j 1, funext fun a => by match a with | ⟨0, _⟩ => rfl | ⟨1, _⟩ => rfl⟩
  have e := reshapeEquiv_ix2_1ab (Shape.Squeezes.numel_eq squeezes_S1x16x512_S16x512) x y
  unfold slotOf joinSlots
  rw [e]
  have h0 : (⟨(((slotRect r).emb (ix3 (⟨0, Nat.one_pos⟩ : Fin 1) x y)) 0).val, ((slotRect r).emb (ix3 (⟨0, Nat.one_pos⟩ : Fin 1) x y) 0).isLt⟩ : Fin 31) = r :=
    Fin.ext (by show r.val + 1 * 0 = r.val; omega)
  have h1 : (⟨(((slotRect r).emb (ix3 (⟨0, Nat.one_pos⟩ : Fin 1) x y)) 1).val, ((slotRect r).emb (ix3 (⟨0, Nat.one_pos⟩ : Fin 1) x y) 1).isLt⟩ : Fin 16) = x :=
    Fin.ext (by show 0 + 1 * x.val = x.val; omega)
  have h2 : (⟨(((slotRect r).emb (ix3 (⟨0, Nat.one_pos⟩ : Fin 1) x y)) 2).val, ((slotRect r).emb (ix3 (⟨0, Nat.one_pos⟩ : Fin 1) x y) 2).isLt⟩ : Fin 512) = y :=
    Fin.ext (by show 0 + 1 * y.val = y.val; omega)
  exact (congrArg (fun g => G g _) h0).trans (congrArg₂ (fun a b => G r (ix2 a b)) h1 h2)

theorem eq_of {P Q : sProp 𝕄} (h : P ⊢ Q) (h' : Q ⊢ P) : P = Q := BI.equiv_iff.mp ⟨h, h'⟩

/-! ## Cutting and joining -/

/-- A buffer of 512 rows is its thirty-two blocks; -/
theorem own_rows (c : Dev nD) (M : Memref sig .tc .vmem S512x512 .bf16) (q : PosShare TreeShare) (X : S512x512.Idx → Elt F .bf16) :
    own c M q X = bigSep Finset.univ fun t : Dev nD => own c (M.slice (rowRect t) (fun _ => rfl)) q (part (rowRect t) X) :=
  eq_of (owns_rects (c : Thread nD τ) M q rowRect (fun _ _ => rfl) rows_disjoint rows_cover X)
    (owns_of_rects (c : Thread nD τ) M q rowRect (fun _ _ => rfl) rows_disjoint rows_cover X)

theorem bigSep_option {A : Type} [Fintype A] [DecidableEq A] (Φ : Option A → sProp 𝕄) :
    bigSep Finset.univ Φ = iprop(Φ none ∗ bigSep Finset.univ fun r : A => Φ (some r)) := by
  have h : (Finset.univ : Finset (Option A)) = insert none (Finset.univ.map Function.Embedding.some) := by
    ext x; cases x <;> simp
  rw [h, BI.bigSep_insert (by simp), BI.bigSep_map]; rfl

/-- as one block and the others by turns, counting forward, -/
theorem own_rows_peer (c : Dev nD) (M : Memref sig .tc .vmem S512x512 .bf16) (q : PosShare TreeShare) (X : S512x512.Idx → Elt F .bf16) (d : Dev nD) :
    own c M q X = iprop(own c (M.slice (rowRect d) (fun _ => rfl)) q (part (rowRect d) X)
      ∗ bigSep Finset.univ fun r : Fin 31 => own c (M.slice (rowRect (peer d r)) (fun _ => rfl)) q (part (rowRect (peer d r)) X)) := by
  rw [own_rows, bigSep_univ_equiv (everyone d), bigSep_option]; rfl

/-- or counting backward. -/
theorem own_rows_from (c : Dev nD) (M : Memref sig .tc .vmem S512x512 .bf16) (q : PosShare TreeShare) (X : S512x512.Idx → Elt F .bf16) (d : Dev nD) :
    own c M q X = iprop(own c (M.slice (rowRect d) (fun _ => rfl)) q (part (rowRect d) X)
      ∗ bigSep Finset.univ fun r : Fin 31 => own c (M.slice (rowRect (from' d r)) (fun _ => rfl)) q (part (rowRect (from' d r)) X)) := by
  rw [own_rows, bigSep_univ_equiv (everyoneFrom d), bigSep_option]; rfl

theorem own_squeeze (c : Dev nD) {s s' : Shape} (M : Memref sig .tc .vmem s .bf16) (h : s.Squeezes s') (q : PosShare TreeShare) (X : s.Idx → Elt F .bf16) :
    own c (M.squeeze s' h) q (fun j => X (Shape.reshapeEquiv h.numel_eq j)) = own c M q X := by
  have hs : (M.squeeze s' h).view.set = M.view.set := View.set_reshape _ _
  unfold own owns
  have e : ∀ f : M.view.ty.Contents (Elt F),
      (((M.squeeze s' h).view.read (Elt F) f = fun j => X (Shape.reshapeEquiv h.numel_eq j)) ↔ M.view.read (Elt F) f = X) := fun f => by
    constructor
    · intro hf
      funext i
      have h1 := congrFun hf ((Shape.reshapeEquiv h.numel_eq).symm i)
      have h2 : M.view.read (Elt F) f (Shape.reshapeEquiv h.numel_eq ((Shape.reshapeEquiv h.numel_eq).symm i))
          = X (Shape.reshapeEquiv h.numel_eq ((Shape.reshapeEquiv h.numel_eq).symm i)) := h1
      rwa [Equiv.apply_symm_apply] at h2
    · intro hf
      funext j
      exact congrFun hf (Shape.reshapeEquiv h.numel_eq j)
  refine eq_of ?_ ?_
  · iintro ⟨%f, %hf, H⟩
    iexists f
    isplitr; · ipureintro; exact (e f).1 hf
    rw [← hs]; iexact H
  · iintro ⟨%f, %hf, H⟩
    iexists f
    isplitr; · ipureintro; exact (e f).2 hf
    rw [hs]; iexact H

/-- The receive buffer is its thirty-one slots. -/
theorem own_slots (c : Dev nD) (M : Memref sig .tc .vmem S31x16x512 .bf16) (q : PosShare TreeShare) (X : S31x16x512.Idx → Elt F .bf16) :
    own c M q X = bigSep Finset.univ fun r : Fin 31 => own c (slotRows M r) q (slotOf r X) := by
  have h : ∀ r : Fin 31, own c (slotRows M r) q (slotOf r X) = own c (M.slice (slotRect r) (fun _ => rfl)) q (part (slotRect r) X) := fun r =>
    own_squeeze c (M.slice (slotRect r) (fun _ => rfl)) squeezes_S1x16x512_S16x512 q (part (slotRect r) X)
  rw [bigSep_congr fun r _ => h r]
  exact eq_of (owns_rects (c : Thread nD τ) M q slotRect (fun _ _ => rfl) slots_disjoint slots_cover X)
    (owns_of_rects (c : Thread nD τ) M q slotRect (fun _ _ => rfl) slots_disjoint slots_cover X)

/-! ## A share lent out in turns -/

/-- What is left of a share after `n` halves were lent, -/
def kept : ℕ → PosShare TreeShare → PosShare TreeShare
  | 0, q => q
  | n + 1, q => kept n q.right
/-- and the half lent in turn `n`. -/
def lent : ℕ → PosShare TreeShare → PosShare TreeShare
  | 0, q => q.left
  | n + 1, q => lent n q.right

theorem own_lend (c : Dev nD) {s : Shape} (M : Memref sig .tc .vmem s .bf16) (X : s.Idx → Elt F .bf16) :
    ∀ (n : ℕ) (q : PosShare TreeShare), own c M q X = iprop(own c M (kept n q) X ∗ bigSep Finset.univ fun r : Fin n => own c M (lent r.val q) X)
  | 0, q => by
    rw [Finset.univ_eq_empty, BI.bigSep_empty]
    refine eq_of ?_ ?_
    · iintro H; isplitl; · iexact H
      iempintro
    · iintro ⟨H, -⟩; iexact H
  | n + 1, q => by
    have h1 : own c M q X = iprop(own c M q.left X ∗ own c M q.right X) := eq_of (owns_halves (c : Thread nD τ) M q X).1 (owns_halves (c : Thread nD τ) M q X).2
    have h2 : (bigSep Finset.univ fun r : Fin (n + 1) => own c M (lent r.val q) X : sProp 𝕄)
        = iprop(own c M q.left X ∗ bigSep Finset.univ fun r : Fin n => own c M (lent r.val q.right) X) := by
      rw [Fin.univ_succ, Finset.cons_eq_insert, BI.bigSep_insert (by simp), BI.bigSep_map]; rfl
    rw [h2, h1, own_lend c M X n q.right]
    refine eq_of ?_ ?_
    · iintro ⟨H1, H2, H3⟩
      isplitl [H2]; · iexact H2
      isplitl [H1] <;> iassumption
    · iintro ⟨H2, H1, H3⟩
      isplitl [H1]; · iexact H1
      isplitl [H2]; · iexact H2
      iexact H3

/-! ## Programs -/

/-- A load through a rectangle of a memref reads that part. -/
theorem wp_load_part (c : Dev nD) {cs : CoreSpace} {s : Shape} {e : EltTy} (M : Memref sig .tc cs s e) (r : Rect s) {hl : M.view.LoadsAt r.toLoadRect}
    {q : PosShare TreeShare} {X : s.Idx → Elt F e} {α : Type} {k : (r.shape.Idx → Elt F e) → Prog (KEff F) α} {Q : α → sProp 𝕄} :
    own c M q X ⊢ iprop((own c M q X -∗ WP c (k (part r X)) Q) -∗ WP c (.op (.load M r.toLoadRect hl) k) Q) := by
  unfold own owns
  iintro ⟨%f, %hf, H⟩ Hk
  iapply (wp_load 𝒱₀ (c : Thread nD τ) none Set.univ (m := M) (View.setOn_subset_set M.view r.set)) $$ H
  iintro H
  have hk : M.view.readAt (Elt F) r.toLoadRect f = part r X := by subst hf; rfl
  rw [hk]
  iapply Hk
  iexists f
  isplitr; · ipureintro; exact hf
  iexact H

/-- A load of a slice held on its own reads its contents. -/
theorem wp_load_slice (c : Dev nD) {cs : CoreSpace} {s : Shape} {e : EltTy} (M : Memref sig .tc cs s e) (r : Rect s) (hr : ∀ a, r.stride a = 1)
    {hl : M.view.LoadsAt r.toLoadRect}
    {q : PosShare TreeShare} {X : r.shape.Idx → Elt F e} {α : Type} {k : (r.shape.Idx → Elt F e) → Prog (KEff F) α} {Q : α → sProp 𝕄} :
    own c (M.slice r hr) q X ⊢ iprop((own c (M.slice r hr) q X -∗ WP c (k X) Q) -∗ WP c (.op (.load M r.toLoadRect hl) k) Q) := by
  unfold own owns
  iintro ⟨%f, %hf, H⟩ Hk
  iapply (wp_load_rect 𝒱₀ (c : Thread nD τ) none Set.univ (m := M) (r := r) (S := (M.slice r hr).view.set) (subset_refl _)) $$ H
  iintro H
  have hk : (M.access r).read (Elt F) f = X := hf
  rw [hk]
  iapply Hk
  iexists f
  isplitr; · ipureintro; exact hf
  iexact H

/-- A store to a slice held on its own leaves what was stored. -/
theorem wp_store_slice (c : Dev nD) {cs : CoreSpace} {s : Shape} {e : EltTy} (M : Memref sig .tc cs s e) (r : Rect s) (hr : ∀ a, r.stride a = 1)
    {w : r.shape.Idx → Elt F e} {hx : (M.access r).Stores Finset.univ} {hm : (Finset.univ : Finset r.shape.Idx) = Finset.univ ∨ ∀ a, r.stride a = 1}
    {X : r.shape.Idx → Elt F e} {α : Type} {k : PUnit → Prog (KEff F) α} {Q : α → sProp 𝕄} :
    own c (M.slice r hr) fullShare X ⊢ iprop((own c (M.slice r hr) fullShare w -∗ WP c (k ⟨⟩) Q) -∗ WP c (.op (.store M r w Finset.univ hx hm) k) Q) := by
  unfold own owns
  iintro ⟨%f, %hf, H⟩ Hk
  iapply (wp_store 𝒱₀ (c : Thread nD τ) none Set.univ (m := M) (r := r) (Mk := Finset.univ) (S := (M.slice r hr).view.set) (subset_refl _)) $$ H
  iintro H
  iapply Hk
  iexists _
  isplitr; · ipureintro; exact View.read_write_univ f w
  iexact H

/-- The whole rectangle is the whole of a memref. -/
theorem part_zero {s : Shape} {β : Type} {o : Fin s.rank → ℕ} (ho : o = fun _ => 0) (inb : ∀ a, o a + s.size a ≤ s.size a) (X : s.Idx → β) :
    part (Rect.unit (s := s) o s.size inb) X = X := by
  subst ho
  funext j
  unfold part
  congr 1
  funext a
  apply Fin.ext
  rw [Rect.emb_apply]
  show 0 + 1 * (j a).val = _
  omega

/-- A load of a whole memref reads its contents. -/
theorem wp_load_all (c : Dev nD) {cs : CoreSpace} {s : Shape} {e : EltTy} (M : Memref sig .tc cs s e) {o : Fin s.rank → ℕ} (ho : o = fun _ => 0)
    {inb : ∀ a, o a + s.size a ≤ s.size a} {hl : M.view.LoadsAt (Rect.unit (s := s) o s.size inb).toLoadRect}
    {q : PosShare TreeShare} {X : s.Idx → Elt F e} {α : Type} {k : (s.Idx → Elt F e) → Prog (KEff F) α} {Q : α → sProp 𝕄} :
    own c M q X ⊢ iprop((own c M q X -∗ WP c (k X) Q) -∗ WP c (.op (.load M (Rect.unit (s := s) o s.size inb).toLoadRect hl) k) Q) := by
  have h := wp_load_part (F := F) c M (Rect.unit (s := s) o s.size inb) (hl := hl) (q := q) (X := X) (k := k) (Q := Q)
  rw [part_zero ho inb X] at h
  exact h

/-- A store over a whole buffer. -/
theorem wp_store_whole (c : Dev nD) {cs : CoreSpace} {s : Shape} {e : EltTy} (M : Memref sig .tc cs s e) {o : Fin s.rank → ℕ} (ho : o = fun _ => 0) {inb : ∀ a, o a + s.size a ≤ s.size a}
    {w : s.Idx → Elt F e} {hx : (M.access (Rect.unit (s := s) o s.size inb)).Stores Finset.univ}
    {hm : (Finset.univ : Finset s.Idx) = Finset.univ ∨ ∀ a, (Rect.unit (s := s) o s.size inb).stride a = 1}
    {X : s.Idx → Elt F e} {α : Type} {k : PUnit → Prog (KEff F) α} {Q : α → sProp 𝕄} :
    own c M fullShare X ⊢ iprop((own c M fullShare w -∗ WP c (k ⟨⟩) Q) -∗ WP c (.op (.store M (Rect.unit (s := s) o s.size inb) w Finset.univ hx hm) k) Q) := by
  subst ho
  unfold own owns
  iintro ⟨%f, %hf, H⟩ Hk
  iapply (wp_store 𝒱₀ (c : Thread nD τ) none Set.univ (m := M) (r := Rect.unit (s := s) (fun _ => 0) s.size inb) (Mk := Finset.univ) (S := M.view.set)
    (View.set_slice_subset _ _)) $$ H
  iintro H
  iapply Hk
  iexists _
  isplitr
  · ipureintro
    have h := View.read_write_univ (v := M.access (Rect.unit (s := s) (fun _ => 0) s.size inb)) (Val := Elt F) f w
    funext j
    have hj : (Rect.unit (s := s) (fun _ => 0) s.size inb).emb j = j := by
      funext a; apply Fin.ext; rw [Rect.emb_apply]; show 0 + 1 * (j a).val = _; omega
    have h2 := congrFun h j
    calc _ = M.view.read (Elt F) _ ((Rect.unit (s := s) (fun _ => 0) s.size inb).emb j) := by rw [hj]
      _ = _ := h2
  iexact H

end Cert.Moe

end
-- ==== Proof.Protocol.lean ====
/-
The exchange's protocol: the cells (one barrier, sixty-two send and sixty-two receive semaphores on every device), what
each cell's one round hands over, what each device owes at launch, and the levels that order the waits.
-/
module

public import proofs.«01_k».proof.Proof.Memory

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

/-! ## Cells -/

/-- A device's cells: the barrier's, and per turn the reduce-scatter's send (0), the all-gather's send (1), the
    reduce-scatter's receive (2) and the all-gather's receive (3). -/
abbrev CK : Type := Option (Fin 4 × Fin 31)

/-- The transfer semaphores by kind and turn. -/
abbrev dsem : Fin 4 → Fin 31 → DmaSem sig
  | 0, r => sendAt (rsIx r)
  | 1, r => sendAt (agIx r)
  | 2, r => recvAt (rsIx r)
  | 3, r => recvAt (agIx r)

theorem dsem_val (p : Fin 4) (r : Fin 31) : (dsem p r).val = 5 + 31 * p.val + r.val := by
  match p with
  | 0 => show (sendAt (rsIx r)).val = _; rw [sendAt_val]; show 5 + r.val = 5 + 31 * 0 + r.val; omega
  | 1 => show (sendAt (agIx r)).val = _; rw [sendAt_val]; show 5 + (31 + r.val) = 5 + 31 * 1 + r.val; omega
  | 2 => show (recvAt (rsIx r)).val = _; rw [recvAt_val]; show 67 + r.val = 5 + 31 * 2 + r.val; omega
  | 3 => show (recvAt (agIx r)).val = _; rw [recvAt_val]; show 67 + (31 + r.val) = 5 + 31 * 3 + r.val; omega

abbrev csem : CK → SemLoc sig
  | none => .reg barS
  | some (p, r) => .dma (dsem p r)

/-- Cell `k` of device `c`. -/
abbrev cell (c : Dev nD) (k : CK) : GSem nD τ sig := ((c : Thread nD τ), csem k)

theorem csem_inj : Function.Injective csem := by
  intro k k' h
  match k, k' with
  | none, none => rfl
  | none, some (p, r) => exact absurd h (by intro h; cases h)
  | some (p, r), none => exact absurd h (by intro h; cases h)
  | some (p, r), some (p', r') =>
    have h1 : dsem p r = dsem p' r' := by injection h
    have h2 := congrArg (fun s : DmaSem sig => s.val) h1
    simp only [dsem_val] at h2
    have := p.isLt; have := r.isLt; have := p'.isLt; have := r'.isLt
    have hp : p = p' := Fin.ext (by omega)
    have hr : r = r' := Fin.ext (by omega)
    rw [hp, hr]

theorem cell_inj : Function.Injective (fun x : Dev nD × CK => cell x.1 x.2) := by
  rintro ⟨c, k⟩ ⟨c', k'⟩ h
  have h1 : c = c' := by have := congrArg (fun g : GSem nD τ sig => g.1.1) h; exact this
  have h2 : csem k = csem k' := congrArg Prod.snd h
  rw [h1, csem_inj h2]

/-! ## Contents -/

variable (m : (ℓ : Loc nD τ sig) → Buf (Elt F) ℓ)

/-- The operands as the launch stages them on device `c`: tokens, router weights, expert numbers, expert weights. -/
def xB (c : Dev nD) : S512x256.Idx → Elt F .bf16 := (win0_0.blk (0 : Fin 1)).view.read (Elt F) (m ((c : Thread nD τ).loc main_arg0))
def rB (c : Dev nD) : S256x64.Idx → Elt F .bf16 := (win0_1.blk (0 : Fin 1)).view.read (Elt F) (m ((c : Thread nD τ).loc main_arg1))
def iB (c : Dev nD) : S512x2.Idx → Elt F .i32 := (win0_2.blk (0 : Fin 1)).view.read (Elt F) (m ((c : Thread nD τ).loc main_arg2))
def eB (c : Dev nD) : S2x256x512.Idx → Elt F .bf16 := (win0_3.blk (0 : Fin 1)).view.read (Elt F) (m ((c : Thread nD τ).loc main_arg3))

/-- What device `c` stages: its experts' gated products of every token. -/
def stg (c : Dev nD) : S512x512.Idx → Elt F .bf16 :=
  stagePay c (xB m c) (rB m c)
    (part (Rect.unit (s := S512x2) ![0, 0] S512x1.size inb_S512x2_S512x1_0_0) (iB m c))
    (part (Rect.unit (s := S512x2) ![0, 1] S512x1.size inb_S512x2_S512x1_0_1) (iB m c))
    (part (Rect.unit (s := S2x256x512) ![0, 0, 0] S1x256x512.size inb_S2x256x512_S1x256x512_0_0_0) (eB m c))
    (part (Rect.unit (s := S2x256x512) ![1, 0, 0] S1x256x512.size inb_S2x256x512_S1x256x512_1_0_0) (eB m c))

/-- The rows of device `t` in what device `c` stages. -/
def stgRow (c t : Dev nD) : S16x512.Idx → Elt F .bf16 := part (rowRect t) (stg m c)

/-- What device `c` receives: its rows from every other device, the one `r + 1` places before it in slot `30 - r`. -/
def rcv (c : Dev nD) : S31x16x512.Idx → Elt F .bf16 := joinSlots fun r => stgRow m (from' c r) c

/-- Device `c`'s rows, summed over the devices. -/
def red (c : Dev nD) : S16x512.Idx → Elt F .bf16 := k0_pay11 (k0_pay10 (stgRow m c c)) (rcv m c)

/-- All the rows, gathered. -/
def gat : S512x512.Idx → Elt F .bf16 := joinRows (red m)

/-- The result, on every device. -/
def outB : S512x512.Idx → Elt F .f32 := k0_pay12 (gat m)

/-! ## The schedule -/

/-- What device `c` is handed at its barrier in turn `r`: the landing places for it on its peer of that turn. -/
def barPay (c : Dev nD) (r : Fin 31) : sProp 𝕄 :=
  iprop((∃ X, own (F := F) (peer c r) (rvSlot r) fullShare X) ∗ (∃ X, own (F := F) (peer c r) (gaRow c) fullShare X))

/-- What a transfer's semaphore hands device `c` in turn `r`, by the semaphore's kind: its staged rows back; its lent
    share of its gathered rows back; the received rows; the gathered rows. -/
def dmaPay (c : Dev nD) : ℕ → Fin 31 → sProp 𝕄
  | 0, r => own c (stRow (peer c r)) fullShare (stgRow m c (peer c r))
  | 1, r => own c (gaRow c) (lent r.val fullShare) (red m c)
  | 2, r => own c (rvSlot r) fullShare (stgRow m (from' c r) c)
  | 3, r => own c (gaRow (from' c r)) fullShare (red m (from' c r))
  | _, _ => iprop(emp)

def payOf (g : GSem nD τ sig) (d : Fin 31) : sProp 𝕄 :=
  match g.2 with
  | .reg _ => barPay g.1.1 d
  | .dma q => dmaPay m g.1.1 ((q.val - 5) / 31) ⟨(q.val - 5) % 31, Nat.mod_lt _ (by decide)⟩

def dutiesOf (g : GSem nD τ sig) : Finset (Fin 31) :=
  match g.2 with
  | .reg _ => Finset.univ
  | .dma _ => {0}

def amountOf' (g : GSem nD τ sig) : ℕ :=
  match g.2 with
  | .reg _ => 1
  | .dma _ => N

/-- Every cell has one round. -/
def Rd : Rounds.Schedule (GSem nD τ sig) (Fin 31) 𝕄 where
  duties g r := if r = 0 then dutiesOf g else ∅
  unitless _ := False
  amount g _ _ := amountOf' g
  payload g _ d := payOf m g d
  amount_pos g _ _ _ := by
    unfold amountOf'
    split
    · exact Nat.one_pos
    · exact N_pos

instance Rd_storable (g : GSem nD τ sig) (r : ℕ) (d : Fin 31) : BI.Storable (upEmb : UEmb _ 𝕄) ((Rd m).payload g r d) := by
  show BI.Storable upEmb (payOf m g d)
  unfold payOf
  split
  · unfold barPay; infer_instance
  · unfold dmaPay; split <;> infer_instance

theorem duties_bar (c : Dev nD) : (Rd m).duties (cell c none) 0 = Finset.univ := rfl
theorem duties_dma (c : Dev nD) (x : Fin 4 × Fin 31) : (Rd m).duties (cell c (some x)) 0 = {0} := rfl
theorem duties_later (g : GSem nD τ sig) : ∀ r, 1 ≤ r → (Rd m).duties g r = ∅ := fun r hr => if_neg (by omega)
theorem amount_bar (c : Dev nD) (d : Fin 31) : (Rd m).amount (cell c none) 0 d = 1 := rfl
theorem amount_dma (c : Dev nD) (x : Fin 4 × Fin 31) (d : Fin 31) : (Rd m).amount (cell c (some x)) 0 d = N := rfl
theorem payload_bar (c : Dev nD) (d : Fin 31) : (Rd m).payload (cell c none) 0 d = barPay c d := rfl
theorem payload_dma (c : Dev nD) (p : Fin 4) (r d : Fin 31) : (Rd m).payload (cell c (some (p, r))) 0 d = dmaPay m c p.val r := by
  have h := dsem_val p r
  have hr := r.isLt
  have h1 : ((dsem p r).val - 5) / 31 = p.val := by omega
  have h2 : ((dsem p r).val - 5) % 31 = r.val := by omega
  show dmaPay m c (((dsem p r).val - 5) / 31) ⟨((dsem p r).val - 5) % 31, _⟩ = _
  rw [h1]
  congr 1
  exact Fin.ext h2

theorem expect_bar (c : Dev nD) : (Rd m).expect (cell c none) 0 = 31 := by
  unfold Schedule.expect Schedule.amountOf
  rw [duties_bar, Finset.sum_congr rfl fun d _ => amount_bar m c d, Finset.sum_const, Finset.card_univ, Fintype.card_fin, smul_eq_mul]
theorem expect_dma (c : Dev nD) (x : Fin 4 × Fin 31) : (Rd m).expect (cell c (some x)) 0 = N := by
  unfold Schedule.expect Schedule.amountOf; rw [duties_dma, Finset.sum_singleton, amount_dma]

theorem rest_bar (c : Dev nD) : bigSep ((Rd m).duties (cell c none) 0 \ ∅) (fun d => (Rd m).payload (cell c none) 0 d) = bigSep Finset.univ fun r => barPay (F := F) c r := by
  rw [Finset.sdiff_empty, duties_bar]; exact bigSep_congr fun d _ => payload_bar m c d
theorem rest_dma (c : Dev nD) (p : Fin 4) (r : Fin 31) :
    bigSep ((Rd m).duties (cell c (some (p, r))) 0 \ ∅) (fun d => (Rd m).payload (cell c (some (p, r))) 0 d) = dmaPay m c p.val r := by
  rw [Finset.sdiff_empty, duties_dma, bigSep_singleton, payload_dma]

/-! ## What is owed at launch, and the levels -/

/-- The summands of a family from turn `n` on. -/
def tail (f : Fin 31 → CellTallies nD τ sig Unit) (n : ℕ) : CellTallies nD τ sig Unit := ∑ r : Fin 31, if n ≤ r.val then f r else 0

theorem tail_end (f : Fin 31 → CellTallies nD τ sig Unit) : tail f 31 = 0 :=
  Finset.sum_eq_zero fun r _ => if_neg (by have := r.isLt; omega)

theorem tail_peel (f : Fin 31 → CellTallies nD τ sig Unit) (r : Fin 31) : tail f r.val = tail f (r.val + 1) + f r := by
  unfold tail
  rw [← Finset.sum_erase_add _ _ (Finset.mem_univ r), ← Finset.sum_erase_add (a := r) (f := fun r' : Fin 31 => if r.val + 1 ≤ r'.val then f r' else 0) _ (Finset.mem_univ r)]
  rw [if_pos le_rfl, if_neg (by omega), add_zero]
  congr 1
  refine Finset.sum_congr rfl fun x hx => ?_
  have hne : x.val ≠ r.val := fun e => (Finset.mem_erase.mp hx).1 (Fin.ext e)
  by_cases h : r.val ≤ x.val
  · rw [if_pos h, if_pos (by omega)]
  · rw [if_neg h, if_neg (by omega)]

def owBar (c : Dev nD) (r : Fin 31) : CellTallies nD τ sig Unit := tallyAt (cell (peer c r) none) () 1
def owRS (c : Dev nD) (r : Fin 31) : CellTallies nD τ sig Unit := tallyAt (cell (peer c r) (some (2, r))) () N
def owAG (c : Dev nD) (r : Fin 31) : CellTallies nD τ sig Unit := tallyAt (cell (peer c r) (some (3, r))) () N

/-- What a device owes at launch: every peer's barrier a unit, every peer's two receive cells a block. -/
def O₀ (c : Dev nD) : CellTallies nD τ sig Unit := (tail (owAG c) 0 + tail (owRS c) 0) + tail (owBar c) 0

def L (g : GSem nD τ sig) : Finset Unit := if g.1.2 = .tc then {()} else ∅
/-- Staging and send cells at 0, barrier cells at 1, the reduce-scatter's receive cells at 2, the all-gather's at 3. -/
def lv (g : GSem nD τ sig) (_ : Unit) : ℕ :=
  match g.2 with
  | .reg _ => 1
  | .dma q => if q.val < 67 then 0 else if q.val < 98 then 2 else 3

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _

theorem lv_bar (c : Dev nD) (u : Unit) : lv (cell c none) u = 1 := rfl
theorem lv_rs (c : Dev nD) (r : Fin 31) (u : Unit) : lv (cell c (some (2, r))) u = 2 := by
  have h := dsem_val 2 r
  have hr := r.isLt
  have h' : (dsem 2 r).val = 5 + 31 * 2 + r.val := h
  show (if (dsem 2 r).val < 67 then 0 else if (dsem 2 r).val < 98 then 2 else 3) = 2
  rw [if_neg (by omega), if_pos (by omega)]
theorem lv_ag (c : Dev nD) (r : Fin 31) (u : Unit) : lv (cell c (some (3, r))) u = 3 := by
  have hr := r.isLt
  have h' : (dsem 3 r).val = 5 + 31 * 3 + r.val := dsem_val 3 r
  show (if (dsem 3 r).val < 67 then 0 else if (dsem 3 r).val < 98 then 2 else 3) = 3
  rw [if_neg (by omega), if_neg (by omega)]

theorem sum_tallies_pos (f : Fin 31 → CellTallies nD τ sig Unit) (g : GSem nD τ sig) (u : Unit) (s : Finset (Fin 31))
    (h : 0 < (∑ r ∈ s, f r) g u) : ∃ r ∈ s, 0 < f r g u := by
  induction s using Finset.induction_on with
  | empty => exact absurd h (Nat.lt_irrefl 0)
  | insert a s ha ih =>
    rw [Finset.sum_insert ha, Pi.add_apply, Finsupp.add_apply] at h
    rcases Nat.eq_zero_or_pos (f a g u) with h0 | h0
    · rw [h0, Nat.zero_add] at h
      obtain ⟨r, hr, hp⟩ := ih h
      exact ⟨r, Finset.mem_insert_of_mem hr, hp⟩
    · exact ⟨a, Finset.mem_insert_self _ _, h0⟩

/-- Something owed in a tail of tallies is owed to one of their cells. -/
theorem tail_pos {gs : Fin 31 → GSem nD τ sig} {k : ℕ} {n : ℕ} {g : GSem nD τ sig} {u : Unit}
    (h : 0 < tail (fun r => tallyAt (gs r) () k) n g u) : ∃ r, g = gs r := by
  obtain ⟨r, -, hr⟩ := sum_tallies_pos _ g u _ h
  refine ⟨r, ?_⟩
  by_contra hn
  by_cases h1 : n ≤ r.val
  · rw [if_pos h1, tallyAt_apply, if_neg (fun h' => hn h'.1)] at hr
    exact Nat.lt_irrefl 0 hr
  · rw [if_neg h1] at hr
    exact Nat.lt_irrefl 0 hr

theorem owBar_pos {c : Dev nD} {n : ℕ} {g : GSem nD τ sig} {u : Unit} (h : 0 < tail (owBar c) n g u) : ∃ r, g = cell (peer c r) none :=
  tail_pos (gs := fun r => cell (peer c r) none) h
theorem owRS_pos {c : Dev nD} {n : ℕ} {g : GSem nD τ sig} {u : Unit} (h : 0 < tail (owRS c) n g u) : ∃ r, g = cell (peer c r) (some (2, r)) :=
  tail_pos (gs := fun r => cell (peer c r) (some (2, r))) h
theorem owAG_pos {c : Dev nD} {n : ℕ} {g : GSem nD τ sig} {u : Unit} (h : 0 < tail (owAG c) n g u) : ∃ r, g = cell (peer c r) (some (3, r)) :=
  tail_pos (gs := fun r => cell (peer c r) (some (3, r))) h

theorem add_pos' {a b : CellTallies nD τ sig Unit} {g : GSem nD τ sig} {u : Unit} (h : 0 < (a + b) g u) : 0 < a g u ∨ 0 < b g u := by
  rw [Pi.add_apply, Finsupp.add_apply] at h; omega

theorem O₀_pos {c : Dev nD} {g : GSem nD τ sig} {u : Unit} (h : 0 < O₀ c g u) :
    (∃ r, g = cell (peer c r) (some (3, r))) ∨ (∃ r, g = cell (peer c r) (some (2, r))) ∨ ∃ r, g = cell (peer c r) none := by
  rcases add_pos' h with h | h
  · rcases add_pos' h with h | h
    · exact .inl (owAG_pos h)
    · exact .inr (.inl (owRS_pos h))
  · exact .inr (.inr (owBar_pos h))

/-- A wait at a cell below everything owed is allowed. -/
theorem mayWait_below (c : Dev nD) (sm : SemLoc sig) (n : ℕ) (hsm : lv ((c : Thread nD τ), sm) () ≤ n) (O : CellTallies nD τ sig Unit)
    (hO : ∀ g u, 0 < O g u → (∃ (d : Dev nD) (s : SemLoc sig), g = ((d : Thread nD τ), s)) ∧ n < lv g u) :
    (levAts L lv : sProp 𝕄) ⊢ MayWait (c : Thread nD τ) sm () O :=
  MayOwe.of_cut (L := L) (lev := lv) n (fun p hp => by rw [Finset.mem_singleton.mp hp]; exact mem_L c sm ())
    (fun g u hg => by obtain ⟨⟨d, s, rfl⟩, -⟩ := hO g u hg; exact mem_L d s u)
    (fun p hp => by rw [Finset.mem_singleton.mp hp]; exact hsm)
    (fun g u hg => (hO g u hg).2)

theorem mayWait_zero (c : Dev nD) (sm : SemLoc sig) : (levAts L lv : sProp 𝕄) ⊢ MayWait (c : Thread nD τ) sm () 0 := by
  rw [MayWait_zero]; iintro -; iempintro

theorem mayWait_stage (c : Dev nD) (q : DmaSem sig) (hq : q.val < 67) (O : CellTallies nD τ sig Unit) (hO : O = O₀ c ∨ O = 0) :
    (levAts L lv : sProp 𝕄) ⊢ MayWait (c : Thread nD τ) (.dma q) () O := by
  rcases hO with rfl | rfl
  · refine mayWait_below c _ 0 (by show (if q.val < 67 then 0 else _) ≤ 0; rw [if_pos hq]) _ fun g u hg => ?_
    rcases O₀_pos hg with ⟨r, rfl⟩ | ⟨r, rfl⟩ | ⟨r, rfl⟩
    · exact ⟨⟨_, _, rfl⟩, by rw [lv_ag]; decide⟩
    · exact ⟨⟨_, _, rfl⟩, by rw [lv_rs]; decide⟩
    · exact ⟨⟨_, _, rfl⟩, by rw [lv_bar]; decide⟩
  · exact mayWait_zero c _

theorem mayWait_bar (c : Dev nD) : (levAts L lv : sProp 𝕄) ⊢ MayWait (c : Thread nD τ) (csem none) () (tail (owAG c) 0 + tail (owRS c) 0) := by
  refine mayWait_below c _ 1 le_rfl _ fun g u hg => ?_
  rcases add_pos' hg with h | h
  · obtain ⟨r, rfl⟩ := owAG_pos h
    exact ⟨⟨_, _, rfl⟩, by rw [lv_ag]; decide⟩
  · obtain ⟨r, rfl⟩ := owRS_pos h
    exact ⟨⟨_, _, rfl⟩, by rw [lv_rs]; decide⟩

theorem mayWait_rs (c : Dev nD) (r : Fin 31) : (levAts L lv : sProp 𝕄) ⊢ MayWait (c : Thread nD τ) (csem (some (2, r))) () (tail (owAG c) 0) := by
  refine mayWait_below c _ 2 (le_of_eq (lv_rs c r ())) _ fun g u hg => ?_
  obtain ⟨r, rfl⟩ := owAG_pos hg
  exact ⟨⟨_, _, rfl⟩, by rw [lv_ag]; decide⟩

/-! ## The ghost state -/

/-- The invariants of all the cells and that each is at its first round: what every device knows. -/
def records (K : Dev nD × CK → ℕ) : sProp 𝕄 :=
  iprop(bigSep Finset.univ (fun x : Dev nD × CK => cellInv ER (Rd m) (K x) (cell x.1 x.2)) ∗ bigSep Finset.univ (fun x : Dev nD × CK => reached ER (cell x.1 x.2) 0))

instance records_persistent (K : Dev nD × CK → ℕ) : BI.Persistent (records m K) := by
  unfold records
  have h1 : BI.Persistent (bigSep Finset.univ (fun x : Dev nD × CK => cellInv ER (Rd m) (K x) (cell x.1 x.2)) : sProp 𝕄) := inferInstance
  have h2 : BI.Persistent (bigSep Finset.univ (fun x : Dev nD × CK => reached ER (cell x.1 x.2) 0) : sProp 𝕄) := inferInstance
  infer_instance

theorem records_inv (K : Dev nD × CK → ℕ) (c : Dev nD) (k : CK) : records m K ⊢ cellInv ER (Rd m) (K (c, k)) (cell c k) := by
  have h : bigSep Finset.univ (fun x : Dev nD × CK => (cellInv ER (Rd m) (K x) (cell x.1 x.2) : sProp 𝕄)) ⊢ cellInv ER (Rd m) (K (c, k)) (cell c k) :=
    bigSep_elim (Finset.mem_univ (c, k))
  unfold records
  iintro ⟨H, -⟩
  iapply h $$ H

theorem records_reached (K : Dev nD × CK → ℕ) (c : Dev nD) (k : CK) : records m K ⊢ reached ER (cell c k) 0 := by
  have h : bigSep Finset.univ (fun x : Dev nD × CK => (reached ER (cell x.1 x.2) 0 : sProp 𝕄)) ⊢ reached ER (cell c k) 0 :=
    bigSep_elim (Finset.mem_univ (c, k))
  unfold records
  iintro ⟨-, H⟩
  iapply h $$ H

/-- The positions of device `c`'s cells, per kind. -/
def posAt (c : Dev nD) (n : ℕ) (k : CK) : sProp 𝕄 := atPos ER (cell c k) n ∅ 0

/-- The tokens device `c` pays with. -/
def tokBar (c : Dev nD) (r : Fin 31) : sProp 𝕄 := dutyTok ER (cell (peer c r) none) 0 r.rev
def tokRecv (c : Dev nD) (p : Fin 4) (r : Fin 31) : sProp 𝕄 := dutyTok ER (cell (peer c r) (some (p, r))) 0 0
def tokSend (c : Dev nD) (p : Fin 4) (r : Fin 31) : sProp 𝕄 := dutyTok ER (cell c (some (p, r))) 0 0

/-- What device `c` alone holds at the start. -/
def linear (c : Dev nD) : sProp 𝕄 :=
  iprop((posAt c 0 none ∗ bigSep Finset.univ (fun r => posAt c 0 (some (0, r))) ∗ bigSep Finset.univ (fun r => posAt c 0 (some (1, r)))
      ∗ bigSep Finset.univ (fun r => posAt c 0 (some (2, r))) ∗ bigSep Finset.univ (fun r => posAt c 0 (some (3, r))))
    ∗ bigSep Finset.univ (tokBar c) ∗ bigSep Finset.univ (tokSend c 0) ∗ bigSep Finset.univ (tokSend c 1)
    ∗ bigSep Finset.univ (tokRecv c 2) ∗ bigSep Finset.univ (tokRecv c 3))

/-- The credit for what the others will send device `c`. -/
def creds (c : Dev nD) : sProp 𝕄 :=
  iprop(cred (tallyAt (cell c none) () 31) ∗ bigSep Finset.univ (fun r => cred (tallyAt (cell c (some (2, r))) () N))
    ∗ bigSep Finset.univ (fun r => cred (tallyAt (cell c (some (3, r))) () N)))

/-- What device `c`'s body starts from. -/
def start (c : Dev nD) : sProp 𝕄 :=
  iprop((∃ K, records m K ∗ linear c) ∗ creds c ∗ levAts L lv)

end Cert.Moe

end
-- ==== Proof.Steps.lean ====
/-
The turns of the body's loops, each proved once for a symbolic turn, and the rule that runs a loop of them.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loops -/

theorem prog_bind_assoc {α β γ : Type} (p : Prog (KEff F) α) (f : α → Prog (KEff F) β) (g : β → Prog (KEff F) γ) :
    ((p >>= f) >>= g) = (p >>= fun a => f a >>= g) := by
  exact bind_assoc p f g

/-- A loop: each turn takes the loop's state one turn on and its own resources to what it leaves. -/
theorem wp_each (c : Dev nD) : ∀ (n : ℕ) (f : Fin n → Prog (KEff F) PUnit) (I : ℕ → sProp 𝕄) (A B : Fin n → sProp 𝕄),
    (∀ (r : Fin n) {α : Type} (k : PUnit → Prog (KEff F) α) (Q : α → sProp 𝕄),
      iprop(I r.val ∗ A r) ⊢ iprop(((I (r.val + 1) ∗ B r) -∗ WP c (k ⟨⟩) Q) -∗ WP c (f r >>= k) Q)) →
    ∀ {α : Type} (k : PUnit → Prog (KEff F) α) (Q : α → sProp 𝕄),
      iprop(I 0 ∗ bigSep Finset.univ A) ⊢ iprop(((I n ∗ bigSep Finset.univ B) -∗ WP c (k ⟨⟩) Q) -∗ WP c (eachFin n f >>= k) Q)
  | 0, f, I, A, B, h, α, k, Q => by
    have e : (eachFin 0 f >>= k) = k ⟨⟩ := rfl
    rw [e, Finset.univ_eq_empty, BI.bigSep_empty, BI.bigSep_empty]
    iintro ⟨HI, -⟩ Hk
    iapply Hk
    isplitl [HI]; · iexact HI
    iempintro
  | n + 1, f, I, A, B, h, α, k, Q => by
    have e : (eachFin (n + 1) f >>= k) = (f 0 >>= fun _ => eachFin n (fun i => f i.succ) >>= k) := prog_bind_assoc _ _ _
    have hs : ∀ Φ : Fin (n + 1) → sProp 𝕄, bigSep Finset.univ Φ = iprop(Φ 0 ∗ bigSep Finset.univ fun r : Fin n => Φ r.succ) := fun Φ => by
      rw [Fin.univ_succ, Finset.cons_eq_insert, BI.bigSep_insert (by simp), BI.bigSep_map]; rfl
    have h0 : iprop(I 0 ∗ A 0) ⊢ iprop(((I (0 + 1) ∗ B 0) -∗ WP c (eachFin n (fun i => f i.succ) >>= k) Q)
        -∗ WP c (f 0 >>= fun _ => eachFin n (fun i => f i.succ) >>= k) Q) := h 0 (fun _ => eachFin n (fun i => f i.succ) >>= k) Q
    rw [e, hs A, hs B]
    iintro ⟨HI, HA, HAs⟩ Hk
    iapply h0 $$ [HI HA]
    · isplitl [HI]; · iexact HI
      iexact HA
    iintro ⟨HI, HB⟩
    iapply (wp_each c n (fun i => f i.succ) (fun j => I (j + 1)) (fun i => A i.succ) (fun i => B i.succ)
      (fun r α' k' Q' => h r.succ k' Q') k Q) $$ [HI HAs]
    · isplitl [HI]; · iexact HI
      iexact HAs
    iintro ⟨HI, HBs⟩
    iapply Hk
    isplitl [HI]; · iexact HI
    isplitl [HB]; · iexact HB
    iexact HBs

/-! ## The turns -/

variable (m : (ℓ : Loc nD τ sig) → Buf (Elt F) ℓ) (K : Dev nD × CK → ℕ)

/-- What a device owes, whatever waits it has recorded. -/
def owesSome (c : Dev nD) (O : CellTallies nD τ sig Unit) : sProp 𝕄 := iprop(∃ W : Waits sig Unit, owes (c : Thread nD τ) O W)

/-- A transfer between memrefs owned at named contents: the two cells' payloads are the source back and the
    destination at the source's contents. -/
theorem wp_send_own (c t : Dev nD) (ks kr : Fin 4 × Fin 31) (S D : Memref sig .tc .vmem S16x512 .bf16) (q : PosShare TreeShare) (X : S16x512.Idx → Elt F .bf16)
    {hsc : (D : Memref sig (Dev.tc t : Thread nD τ).2.kind .vmem S16x512 .bf16).view.ref.isScScratch = false}
    {hsrc : S.view.WordExact} {hdst : D.view.WordExact}
    {hsem : DmaTarget.Typed .vmem (csem (some kr)) (.remote (Dev.tc t : Thread nD τ) D (csem (some ks)) hsc)}
    (hN : D.view.amount (csem (some kr)) = N)
    (hpay₁ : own c S q X ⊢ (Rd m).payload (cell c (some ks)) 0 0)
    (hpay₂ : own t D fullShare X ⊢ (Rd m).payload (cell t (some kr)) 0 0)
    (O : CellTallies nD τ sig Unit) (W : Waits sig Unit) {α : Type} {k : PUnit → Prog (KEff F) α} {Q : α → sProp 𝕄} :
    iprop(records m K ∗ own c S q X ∗ (∃ Y, own (F := F) t D fullShare Y) ∗ owes (c : Thread nD τ) (O + tallyAt (cell t (some kr)) () N) W
        ∗ dutyTok ER (cell c (some ks)) 0 0 ∗ dutyTok ER (cell t (some kr)) 0 0)
      ⊢ iprop(((cred (tallyAt (cell c (some ks)) () N) ∗ owes (c : Thread nD τ) O W) -∗ WP c (k ⟨⟩) Q)
          -∗ WP c (.op (.enqueueDma S (.remote (Dev.tc t : Thread nD τ) D (csem (some ks)) hsc) (csem (some kr)) hsrc hdst hsem) k) Q) := by
  iintro ⟨#HK, HS, ⟨%Y, HD⟩, HO, Hts, Htr⟩ Hk
  ihave HS' := (show own c S q X ⊢ iprop(∃ f, ⌜S.view.read (Elt F) f = X⌝ ∗ (S.view.loc (c : Thread nD τ) ↦[S.view.set]{q} f)) from .rfl) $$ HS
  ihave HD' := (show own t D fullShare Y ⊢ iprop(∃ f, ⌜D.view.read (Elt F) f = Y⌝ ∗ (D.view.loc (t : Thread nD τ) ↦[D.view.set]{fullShare} f)) from .rfl) $$ HD
  icases HS' with ⟨%fs, %hfs, HS⟩
  icases HD' with ⟨%fd, %hfd, HD⟩
  iapply (Rounds.wp_send_pointsTo 𝒱₀ ER (Rd m) (c : Thread nD τ) none (κ₁ := K (c, some ks)) (κ₂ := K (t, some kr))
    (r₁ := 0) (r₂ := 0) (d₁ := 0) (d₂ := 0) (fd := fd)
    (by rw [duties_dma]; exact Finset.mem_singleton_self _) (by rw [duties_dma]; exact Finset.mem_singleton_self _)
    () () N hN (amount_dma m c ks 0) (amount_dma m t kr 0) O rfl (W := W)
    (by subst hfs; exact (owns_intro (c : Thread nD τ) S q fs).trans hpay₁)
    (by
      have h := owns_intro (Ix := Unit) (Name := ℕ) (U := UU) (Lvl := ℕ) (t : Thread nD τ) D fullShare (D.view.write (Elt F) fd (S.view.read (Elt F) fs) Finset.univ)
      rw [View.read_write_univ, hfs] at h
      exact (show _ ⊢ own t D fullShare X from by rw [← hfs]; rw [← hfs] at h; exact h).trans hpay₂)) $$ [HS HD HO Hts Htr]
  · isplitr; · iapply (records_inv m K c (some ks)) $$ HK
    isplitr; · iapply (records_inv m K t (some kr)) $$ HK
    isplitl [HS]; · iexact HS
    isplitl [HD]; · iexact HD
    isplitl [HO]; · iexact HO
    isplitl [Hts]; · iexact Hts
    isplitr; · iapply (records_reached m K c (some ks)) $$ HK
    isplitl [Htr]; · iexact Htr
    iapply (records_reached m K t (some kr)) $$ HK
  iexact Hk

/-- A wait for a transfer's semaphore. -/
theorem wait_turn (c : Dev nD) (p : Fin 4) (r : Fin 31) (O : CellTallies nD τ sig Unit)
    (hO : (levAts L lv : sProp 𝕄) ⊢ MayWait (c : Thread nD τ) (csem (some (p, r))) () O)
    (S D : Memref sig .tc .vmem S16x512 .bf16) {hsrc : S.view.WordExact} {hdst : D.view.WordExact} (hN : D.view.dmaCredit = N)
    {α : Type} (k : PUnit → Prog (KEff F) α) (Q : α → sProp 𝕄) :
    iprop((records m K ∗ levAts L lv ∗ owesSome c O) ∗ posAt c 0 (some (p, r)) ∗ cred (tallyAt (cell c (some (p, r))) () N))
      ⊢ iprop((((records m K ∗ levAts L lv ∗ owesSome c O) ∗ posAt c 1 (some (p, r)) ∗ dmaPay m c p.val r) -∗ WP c (k ⟨⟩) Q)
          -∗ WP c (Prog.lift (.waitDma2 (dsem p r) S D hsrc hdst) >>= k) Q) := by
  simp only [Prog.lift, Prog.bind_op, Prog.bind_ret]
  unfold owesSome posAt
  iintro ⟨⟨#HK, #Hlev, ⟨%W, HO⟩⟩, Hat, Hc⟩ Hk
  iapply (Rounds.wp_wait_rest_token 𝒱₀ ER (Rd m) (c : Thread nD τ) none (κ := K (c, some (p, r)))
      (wpE_waitDma2_eq 𝒱₀ (c : Thread nD τ) none Set.univ) (Set.mem_univ _) () (O := O) (W := W) (R := 0) (m := 0) (T := ∅)
      (by rw [Nat.zero_add]; exact hN.trans (expect_dma m c (p, r)).symm)) $$ [Hc HO Hat]
  · isplitr; · iapply (records_inv m K c (some (p, r))) $$ HK
    isplitl [Hc]; · rw [hN]; iexact Hc
    isplitl [HO]; · iexact HO
    isplitr; · iapply hO $$ Hlev
    iexact Hat
  iintro ⟨HO, Hat, -, Hpay⟩
  ihave Hp := (Entails.of_eq (rest_dma m c p r)) $$ Hpay
  iapply Hk
  isplitl [HO]
  · isplitr; · iexact HK
    isplitr; · iexact Hlev
    iexists _; iexact HO
  isplitl [Hat]; · iexact Hat
  iexact Hp

/-- An entry signal: the peer is handed the landing places for it here. -/
theorem signal_turn (c : Dev nD) (X : CellTallies nD τ sig Unit) (r : Fin 31) {α : Type} (k : PUnit → Prog (KEff F) α) (Q : α → sProp 𝕄) :
    iprop((records m K ∗ owesSome c (X + tail (owBar c) r.val))
        ∗ tokBar c r ∗ (∃ Y, own (F := F) c (rvSlot r.rev) fullShare Y) ∗ (∃ Y, own (F := F) c (gaRow (peer c r)) fullShare Y))
      ⊢ iprop((((records m K ∗ owesSome c (X + tail (owBar c) (r.val + 1))) ∗ emp) -∗ WP c (k ⟨⟩) Q) -∗ WP c (signalP (F := F) c r >>= k) Q) := by
  unfold signalP
  simp only [semSignalWord, Prog.lift, Prog.bind_op, Prog.bind_ret, Prog.pure_eq_ret]
  unfold owesSome tokBar
  rw [tail_peel, ← add_assoc]
  iintro ⟨⟨#HK, ⟨%W, HO⟩⟩, Ht, Hs, Hg⟩ Hk
  iapply (Rounds.wp_signal 𝒱₀ ER (Rd m) (c : Thread nD τ) none (dst := (peer c r : Thread nD τ)) (κ := K (peer c r, none))
      (d := r.rev) (by rw [duties_bar]; exact Finset.mem_univ _) ((amount_bar m (peer c r) r.rev).trans (by decide)) () (X + tail (owBar c) (r.val + 1)) rfl)
    $$ [HO Ht Hs Hg]
  · isplitr; · iapply (records_inv m K (peer c r) none) $$ HK
    isplitl [HO]; · iexact HO
    isplitl [Ht]; · iexact Ht
    isplitl [Hs Hg]
    · rw [payload_bar]; unfold barPay; rw [peer_rev]
      isplitl [Hs]; · iexact Hs
      iexact Hg
    iapply (records_reached m K (peer c r) none) $$ HK
  iintro HO
  iapply Hk
  isplitl [HO]
  · isplitr; · iexact HK
    iexists W; iexact HO
  iempintro

/-- The reduce-scatter's transfer of a turn. -/
theorem rsSend_turn (c : Dev nD) (r : Fin 31) {α : Type} (k : PUnit → Prog (KEff F) α) (Q : α → sProp 𝕄) :
    iprop((records m K ∗ owesSome c (tail (owAG c) 0 + tail (owRS c) r.val))
        ∗ tokSend c 0 r ∗ tokRecv c 2 r ∗ own c (stRow (peer c r)) fullShare (stgRow m c (peer c r)) ∗ (∃ Y, own (F := F) (peer c r) (rvSlot r) fullShare Y))
      ⊢ iprop((((records m K ∗ owesSome c (tail (owAG c) 0 + tail (owRS c) (r.val + 1))) ∗ cred (tallyAt (cell c (some (0, r))) () N)) -∗ WP c (k ⟨⟩) Q)
        -∗ WP c (rsSendP (F := F) stM (Memref.isWhole_whole _) rvM (Memref.isWhole_whole _) cc0_scratch3 cc0_scratch4 c r >>= k) Q) := by
  unfold rsSendP
  simp only [Prog.lift, Prog.bind_op, Prog.bind_ret]
  unfold owesSome tokSend tokRecv
  rw [tail_peel (owRS c), ← add_assoc]
  have e := stageRows_eq stM c r
  iintro ⟨⟨#HK, ⟨%W, HO⟩⟩, Hts, Htr, HS, HD⟩ Hk
  iapply (wp_send_own m K c (peer c r) (0, r) (2, r) (stageRows stM c r) (rvSlot r) fullShare (stgRow m c (peer c r)) rfl
    (by rw [payload_dma, e]; exact BI.Entails.refl _)
    (by rw [payload_dma]; show _ ⊢ own (peer c r) (rvSlot r) fullShare (stgRow m (from' (peer c r) r) (peer c r)); rw [from_peer])
    (tail (owAG c) 0 + tail (owRS c) (r.val + 1)) W) $$ [HO Hts Htr HS HD]
  · isplitr; · iexact HK
    isplitl [HS]; · rw [e]; iexact HS
    isplitl [HD]; · iexact HD
    isplitl [HO]; · iexact HO
    isplitl [Hts]; · iexact Hts
    iexact Htr
  iintro ⟨Hc, HO⟩
  iapply Hk
  isplitl [HO]
  · isplitr; · iexact HK
    iexists W; iexact HO
  iexact Hc

/-- The all-gather's transfer of a turn. -/
theorem agSend_turn (c : Dev nD) (r : Fin 31) {α : Type} (k : PUnit → Prog (KEff F) α) (Q : α → sProp 𝕄) :
    iprop((records m K ∗ owesSome c (tail (owAG c) r.val))
        ∗ tokSend c 1 r ∗ tokRecv c 3 r ∗ own c (gaRow c) (lent r.val fullShare) (red m c) ∗ (∃ Y, own (F := F) (peer c r) (gaRow c) fullShare Y))
      ⊢ iprop((((records m K ∗ owesSome c (tail (owAG c) (r.val + 1))) ∗ cred (tallyAt (cell c (some (1, r))) () N)) -∗ WP c (k ⟨⟩) Q)
        -∗ WP c (agSendP (F := F) gaM (Memref.isWhole_whole _) cc0_scratch3 cc0_scratch4 c r >>= k) Q) := by
  unfold agSendP
  simp only [Prog.lift, Prog.bind_op, Prog.bind_ret]
  unfold owesSome tokSend tokRecv
  rw [tail_peel (owAG c)]
  have e := ownRows_eq gaM c
  iintro ⟨⟨#HK, ⟨%W, HO⟩⟩, Hts, Htr, HS, HD⟩ Hk
  iapply (wp_send_own m K c (peer c r) (1, r) (3, r) (ownRows gaM c) (ownRows gaM c) (lent r.val fullShare) (red m c) rfl
    (by rw [payload_dma, e]; exact BI.Entails.refl _)
    (by rw [payload_dma, e]; show _ ⊢ own (peer c r) (gaRow (from' (peer c r) r)) fullShare (red m (from' (peer c r) r)); rw [from_peer])
    (tail (owAG c) (r.val + 1)) W) $$ [HO Hts Htr HS HD]
  · isplitr; · iexact HK
    isplitl [HS]; · rw [e]; iexact HS
    isplitl [HD]; · rw [e]; iexact HD
    isplitl [HO]; · iexact HO
    isplitl [Hts]; · iexact Hts
    iexact Htr
  iintro ⟨Hc, HO⟩
  iapply Hk
  isplitl [HO]
  · isplitr; · iexact HK
    iexists W; iexact HO
  iexact Hc

end Cert.Moe

end
-- ==== Proof.Body.lean ====
/-
The kernel's body on one device, from what the launch hands it to the finished exchange.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CK → ℕ)

/-! ## Families -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family over a device's cells, kind by kind. -/
theorem bigSep_cells (Φ : CK → sProp 𝕄) :
    bigSep Finset.univ Φ = iprop(Φ none ∗ bigSep Finset.univ (fun r => Φ (some (0, r))) ∗ bigSep Finset.univ (fun r => Φ (some (1, r)))
      ∗ bigSep Finset.univ (fun r => Φ (some (2, r))) ∗ bigSep Finset.univ (fun r => Φ (some (3, r)))) := by
  rw [bigSep_option, BI.bigSep_univ_prod, bigSep_fin4]

/-- Contents forgotten, in every turn. -/
theorem forget (c : Fin 31 → Dev nD) {s : Shape} (M : Fin 31 → Memref sig .tc .vmem s .bf16) (X : Fin 31 → s.Idx → Elt F .bf16) :
    bigSep Finset.univ (fun r => own (c r) (M r) fullShare (X r)) ⊢ (bigSep Finset.univ (fun r => iprop(∃ Y, own (F := F) (c r) (M r) fullShare Y)) : sProp 𝕄) :=
  bigSep_mono fun r _ => (show own (c r) (M r) fullShare (X r) ⊢ (iprop(∃ Y, own (F := F) (c r) (M r) fullShare Y) : sProp 𝕄) from by
    iintro H; iexists (X r); iexact H)

theorem own_intro (c : Dev nD) {s : Shape} {M M' : Memref sig .tc .vmem s .bf16} (h : M = M') (q : PosShare TreeShare) (X : s.Idx → Elt F .bf16) :
    own c M q X = own c M' q X := by rw [h]

/-! ## Buffers at the exchange's contents -/

theorem stage_split (c : Dev nD) : own c stM fullShare (stg m c)
    = iprop(own c (stRow c) fullShare (stgRow m c c) ∗ bigSep Finset.univ fun r : Fin 31 => own c (stRow (peer c r)) fullShare (stgRow m c (peer c r))) :=
  own_rows_peer c stM fullShare (stg m c) c

theorem own_slots_rev (c : Dev nD) (X : S31x16x512.Idx → Elt F .bf16) :
    own c rvM fullShare X = bigSep Finset.univ fun r : Fin 31 => own c (rvSlot r.rev) fullShare (slotOf r.rev X) :=
  (own_slots c rvM fullShare X).trans (bigSep_univ_equiv Fin.revPerm fun r : Fin 31 => own c (rvSlot r) fullShare (slotOf r X))

theorem recv_join (c : Dev nD) : (bigSep Finset.univ fun r : Fin 31 => own c (rvSlot r) fullShare (stgRow m (from' c r) c)) = own c rvM fullShare (rcv m c) := by
  rw [own_slots]
  exact bigSep_congr fun r _ => by rw [rcv, slotOf_joinSlots]

theorem gather_join (c : Dev nD) (q : PosShare TreeShare) :
    iprop(own c (gaRow c) q (red m c) ∗ bigSep Finset.univ fun r : Fin 31 => own c (gaRow (from' c r)) q (red m (from' c r))) = own c gaM q (gat m) := by
  rw [own_rows_from c gaM q (gat m) c]
  have h : ∀ t, part (rowRect t) (gat m) = red m t := fun t => part_joinRows (red m) t
  simp only [h]

/-- The received rows, each with the shares the device's own row lends out set aside. -/
theorem gather_lend (c : Dev nD) :
    (bigSep Finset.univ fun r : Fin 31 => own c (gaRow (from' c r)) fullShare (red m (from' c r)))
      = iprop((bigSep Finset.univ fun r : Fin 31 => own c (gaRow (from' c r)) (kept 31 fullShare) (red m (from' c r)))
        ∗ bigSep Finset.univ fun r : Fin 31 => bigSep Finset.univ fun i : Fin 31 => own c (gaRow (from' c r)) (lent i.val fullShare) (red m (from' c r))) := by
  rw [← bigSep_sep']
  exact bigSep_congr fun r _ => own_lend c (gaRow (from' c r)) (red m (from' c r)) 31 fullShare

theorem pays0 (c : Dev nD) : (bigSep Finset.univ (dmaPay m c 0)) = bigSep Finset.univ fun r : Fin 31 => own c (stRow (peer c r)) fullShare (stgRow m c (peer c r)) := rfl
theorem pays1 (c : Dev nD) : (bigSep Finset.univ (dmaPay m c 1)) = bigSep Finset.univ fun r : Fin 31 => own c (gaRow c) (lent r.val fullShare) (red m c) := rfl
theorem pays2 (c : Dev nD) : (bigSep Finset.univ (dmaPay m c 2)) = bigSep Finset.univ fun r : Fin 31 => own c (rvSlot r) fullShare (stgRow m (from' c r) c) := rfl
theorem pays3 (c : Dev nD) : (bigSep Finset.univ (dmaPay m c 3)) = bigSep Finset.univ fun r : Fin 31 => own c (gaRow (from' c r)) fullShare (red m (from' c r)) := rfl

theorem stg_fold (c : Dev nD) : stagePay c (xB m c) (rB m c)
    (part (Rect.unit (s := S512x2) ![0, 0] S512x1.size inb_S512x2_S512x1_0_0) (iB m c))
    (part (Rect.unit (s := S512x2) ![0, 1] S512x1.size inb_S512x2_S512x1_0_1) (iB m c))
    (part (Rect.unit (s := S2x256x512) ![0, 0, 0] S1x256x512.size inb_S2x256x512_S1x256x512_0_0_0) (eB m c))
    (part (Rect.unit (s := S2x256x512) ![1, 0, 0] S1x256x512.size inb_S2x256x512_S1x256x512_1_0_0) (eB m c)) = stg m c := rfl
theorem red_fold (c : Dev nD) : k0_pay11 (k0_pay10 (stgRow m c c)) (rcv m c) = red m c := rfl
theorem out_fold : k0_pay12 (gat m) = outB m := rfl

/-! ## Closing the cells -/

theorem close_all (c : Dev nD) : iprop(records m K ∗ bigSep Finset.univ (posAt (F := F) c 1))
    ⊢ (|={Set.univ}=> bigSep Finset.univ (fun k : CK => semVal (cell c k) 0) : sProp 𝕄) := by
  have h : ∀ k : CK, iprop(records m K ∗ posAt c 1 k) ⊢ (|={Set.univ}=> semVal (cell c k) 0 : sProp 𝕄) := fun k => by
    iintro ⟨#HK, Hat⟩
    unfold posAt
    iapply (Rounds.cell_close ER (Rd m) (Set.mem_univ (K (c, k))) (fun h => h) (R := 0 + 1) (duties_later m (cell c k)))
    isplitr; · iapply (records_inv m K c k) $$ HK
    iexact Hat
  have h1 : iprop(records m K ∗ bigSep Finset.univ (posAt (F := F) c 1)) ⊢ (bigSep Finset.univ fun k => iprop(records m K ∗ posAt c 1 k) : sProp 𝕄) := by
    rw [bigSep_sep']
    iintro ⟨#HK, H⟩
    isplitr; · iapply (bigSep_of_persistent Finset.univ (records m K)) $$ HK
    iexact H
  exact h1.trans ((bigSep_mono fun k _ => h k).trans (bigSep_fupd _ _))

/-! ## The body -/

abbrev xM : Memref sig .tc .vmem S512x256 .bf16 := Memref.whole cc0_stg0_0
abbrev rM : Memref sig .tc .vmem S256x64 .bf16 := Memref.whole cc0_stg1_0
abbrev iM : Memref sig .tc .vmem S512x2 .i32 := Memref.whole cc0_stg2_0
abbrev eM : Memref sig .tc .vmem S2x256x512 .bf16 := Memref.whole cc0_stg3_0
abbrev oM : Memref sig .tc .vmem S512x512 .f32 := Memref.whole cc0_stg4_0

/-- The four staged operands. -/
def operands (c : Dev nD) : sProp 𝕄 :=
  iprop(own c xM fullShare (xB m c) ∗ own c rM fullShare (rB m c) ∗ own c iM fullShare (iB m c) ∗ own c eM fullShare (eB m c))

/-- The three scratch buffers, at any contents. -/
def scratch (c : Dev nD) : sProp 𝕄 :=
  iprop((∃ X, own (F := F) c stM fullShare X) ∗ (∃ X, own (F := F) c rvM fullShare X) ∗ (∃ X, own (F := F) c gaM fullShare X))

def bodyPre (c : Dev nD) : sProp 𝕄 :=
  iprop((records m K ∗ linear c ∗ creds c ∗ levAts L lv) ∗ owesSome c (O₀ c) ∗ scratch c ∗ operands m c ∗ ∃ X, own (F := F) c oM fullShare X)

def bodyPost (c : Dev nD) : sProp 𝕄 :=
  iprop(scratch c ∗ bigSep Finset.univ (fun k : CK => semVal (cell c k) 0) ∗ owesSome c 0 ∗ operands m c ∗ own c oM fullShare (outB m))

theorem z2 : (![0, 0] : Fin 2 → ℕ) = fun _ => 0 := funext fun a => by fin_cases a <;> rfl
theorem z3 : (![0, 0, 0] : Fin 3 → ℕ) = fun _ => 0 := funext fun a => by fin_cases a <;> rfl

/-- `wp_each` at the end of a program. -/
theorem wp_each_end (c : Dev nD) (n : ℕ) (f : Fin n → Prog (KEff F) PUnit) (I : ℕ → sProp 𝕄) (A B : Fin n → sProp 𝕄)
    (h : ∀ (r : Fin n) {α : Type} (k : PUnit → Prog (KEff F) α) (Q : α → sProp 𝕄),
      iprop(I r.val ∗ A r) ⊢ iprop(((I (r.val + 1) ∗ B r) -∗ WP c (k ⟨⟩) Q) -∗ WP c (f r >>= k) Q)) (Q : PUnit → sProp 𝕄) :
    iprop(I 0 ∗ bigSep Finset.univ A) ⊢ iprop(((I n ∗ bigSep Finset.univ B) -∗ WP c (pure ⟨⟩) Q) -∗ WP c (eachFin n f) Q) := by
  have h1 := wp_each c n f I A B h (fun _ => (pure ⟨⟩ : Prog (KEff F) PUnit)) Q
  rwa [show (eachFin n f >>= fun _ => (pure ⟨⟩ : Prog (KEff F) PUnit)) = eachFin n f from bind_pure _] at h1

set_option maxHeartbeats 2000000 in
theorem sound_body (c : Dev nD) (Kt : PUnit → sProp 𝕄) :
    iprop(bodyPre m K c ∗ (bodyPost m c -∗ Kt ⟨⟩))
      ⊢ WP c (loopedP xM rM iM eM oM stM (Memref.isWhole_whole _) rvM (Memref.isWhole_whole _) gaM (Memref.isWhole_whole _) cc0_scratch3 cc0_scratch4 c) Kt := by
  unfold loopedP
  simp only [semWaitWord, Prog.lift, Prog.bind_op, Prog.bind_ret, Prog.pure_eq_ret]
  unfold bodyPre linear creds scratch operands
  iintro ⟨⟨⟨#HK, ⟨⟨HpB, Hp0, Hp1, Hp2, Hp3⟩, HtB, Ht0, Ht1, Ht2, Ht3⟩, ⟨HcB, Hc2, Hc3⟩, #Hlev⟩, HO, ⟨⟨%S0, HS⟩, ⟨%R0, HR⟩, ⟨%G0, HG⟩⟩, ⟨HX, HW, HI, HE⟩, ⟨%Z0, HZ⟩⟩, Hk⟩
  -- the landing places, by turns
  ihave HG' := (Entails.of_eq (own_rows_peer c gaM fullShare G0 c)) $$ HG
  icases HG' with ⟨HGown, HGs⟩
  ihave HR' := (Entails.of_eq (own_slots_rev c R0)) $$ HR
  ihave HRs := (forget (fun _ => c) (fun r : Fin 31 => rvSlot r.rev) (fun r => slotOf r.rev R0)) $$ HR'
  ihave HGs' := (forget (fun _ => c) (fun r : Fin 31 => gaRow (peer c r)) (fun r => part (rowRect (peer c r)) G0)) $$ HGs
  -- the entry signals
  iapply (wp_each c 31 (signalP (F := F) c) (fun n => iprop(records m K ∗ owesSome c ((tail (owAG c) 0 + tail (owRS c) 0) + tail (owBar c) n)))
      (fun r => iprop(tokBar c r ∗ (∃ Y, own (F := F) c (rvSlot r.rev) fullShare Y) ∗ (∃ Y, own (F := F) c (gaRow (peer c r)) fullShare Y)))
      (fun _ => iprop(emp)) (fun r α k Q => signal_turn m K c _ r k Q) _ _) $$ [HO HtB HRs HGs']
  · isplitl [HO]
    · isplitr; · iexact HK
      iexact HO
    simp only [bigSep_sep']
    isplitl [HtB]; · iexact HtB
    isplitl [HRs]; · iexact HRs
    iexact HGs'
  rw [tail_end, add_zero]
  iintro ⟨⟨-, HO⟩, -⟩
  -- the operands are read and the staged products stored
  iapply (wp_load_all c xM z2) $$ HX; iintro HX
  iapply (wp_load_all c rM z2) $$ HW; iintro HW
  iapply (wp_load_part c iM (Rect.unit (s := S512x2) ![0, 0] S512x1.size inb_S512x2_S512x1_0_0)) $$ HI; iintro HI
  iapply (wp_load_part c iM (Rect.unit (s := S512x2) ![0, 1] S512x1.size inb_S512x2_S512x1_0_1)) $$ HI; iintro HI
  iapply (wp_load_part c eM (Rect.unit (s := S2x256x512) ![0, 0, 0] S1x256x512.size inb_S2x256x512_S1x256x512_0_0_0)) $$ HE; iintro HE
  iapply (wp_load_part c eM (Rect.unit (s := S2x256x512) ![1, 0, 0] S1x256x512.size inb_S2x256x512_S1x256x512_1_0_0)) $$ HE; iintro HE
  iapply (wp_load_all c stM z2) $$ HS; iintro HS
  rw [stg_fold]
  iapply (wp_store_whole c stM z2) $$ HS; iintro HS
  -- every landing place is handed over at the barrier
  unfold owesSome
  icases HO with ⟨%W, HO⟩
  unfold posAt
  iapply (Rounds.wp_wait_rest_token 𝒱₀ ER (Rd m) (c : Thread nD τ) none (κ := K (c, none))
      (wpE_semWait_eq 𝒱₀ (c : Thread nD τ) none Set.univ) (Set.mem_univ _) () (O := tail (owAG c) 0 + tail (owRS c) 0) (W := W) (R := 0) (m := 0) (T := ∅)
      (by rw [expect_bar]; decide)) $$ [HcB HO HpB]
  · isplitr; · iapply (records_inv m K c none) $$ HK
    isplitl [HcB]; · iexact HcB
    isplitl [HO]; · iexact HO
    isplitr; · iapply (mayWait_bar c) $$ Hlev
    iexact HpB
  iintro ⟨HO, HpB, -, Hpay⟩
  ihave Hp := (Entails.of_eq ((rest_bar m c).trans (bigSep_sep' _ _ _))) $$ Hpay
  icases Hp with ⟨HLs, HLg⟩
  ihave HO' := (show owes (c : Thread nD τ) (tail (owAG c) 0 + tail (owRS c) 0) _ ⊢ owesSome (F := F) c (tail (owAG c) 0 + tail (owRS c) 0) from by
    unfold owesSome; iintro H; iexists _; iexact H) $$ HO
  -- the reduce-scatter's transfers
  ihave HS' := (Entails.of_eq (stage_split m c)) $$ HS
  icases HS' with ⟨HSown, HSs⟩
  iapply (wp_each c 31 (rsSendP (F := F) stM (Memref.isWhole_whole _) rvM (Memref.isWhole_whole _) cc0_scratch3 cc0_scratch4 c)
      (fun n => iprop(records m K ∗ owesSome c (tail (owAG c) 0 + tail (owRS c) n)))
      (fun r => iprop(tokSend c 0 r ∗ tokRecv c 2 r ∗ own c (stRow (peer c r)) fullShare (stgRow m c (peer c r)) ∗ (∃ Y, own (F := F) (peer c r) (rvSlot r) fullShare Y)))
      (fun r => cred (tallyAt (cell c (some (0, r))) () N)) (fun r α k Q => rsSend_turn m K c r k Q) _ _) $$ [HO' Ht0 Ht2 HSs HLs]
  · isplitl [HO']
    · isplitr; · iexact HK
      iexact HO'
    simp only [bigSep_sep']
    isplitl [Ht0]; · iexact Ht0
    isplitl [Ht2]; · iexact Ht2
    isplitl [HSs]; · iexact HSs
    iexact HLs
  rw [tail_end, add_zero]
  iintro ⟨⟨-, HO⟩, Hc0⟩
  -- its receives
  iapply (wp_each c 31 (rsRecvP (F := F) stM (Memref.isWhole_whole _) rvM (Memref.isWhole_whole _) cc0_scratch4 c)
      (fun n => iprop(records m K ∗ levAts L lv ∗ owesSome c (tail (owAG c) 0)))
      (fun r => iprop(posAt c 0 (some (2, r)) ∗ cred (tallyAt (cell c (some (2, r))) () N)))
      (fun r => iprop(posAt c 1 (some (2, r)) ∗ dmaPay m c 2 r))
      (fun r α k Q => wait_turn m K c 2 r _ (mayWait_rs c r) (stageRows stM c r) (rvSlot r) rfl k Q) _ _) $$ [HO Hp2 Hc2]
  · isplitl [HO]
    · isplitr; · iexact HK
      isplitr; · iexact Hlev
      iexact HO
    simp only [bigSep_sep']
    isplitl [Hp2]; · unfold posAt; iexact Hp2
    iexact Hc2
  simp only [bigSep_sep']
  iintro ⟨⟨-, -, HO⟩, Hp2, Hd2⟩
  -- the device's own rows are summed and stored
  ihave HR := (Entails.of_eq ((pays2 m c).trans (recv_join m c))) $$ Hd2
  have e2 : stM.slice (Rect.unit (s := S512x512) (k0_off2 c) S16x512.size (k0_off2_inb c)) (fun _ => rfl) = stRow c := slice_unit_congr stM (off2_eq c) _ _
  have e3 : gaM.slice (Rect.unit (s := S512x512) (k0_off2 c) S16x512.size (k0_off2_inb c)) (fun _ => rfl) = gaRow c := slice_unit_congr gaM (off2_eq c) _ _
  ihave HSown' := (Entails.of_eq (own_intro c e2.symm fullShare (stgRow m c c))) $$ HSown
  iapply (wp_load_slice c stM (Rect.unit (s := S512x512) (k0_off2 c) S16x512.size (k0_off2_inb c)) (fun _ => rfl)) $$ HSown'; iintro HSown'
  iapply (wp_load_all c rvM z3) $$ HR; iintro HR
  ihave HGown' := (Entails.of_eq (own_intro c e3.symm fullShare (part (rowRect c) G0))) $$ HGown
  iapply (wp_load_slice c gaM (Rect.unit (s := S512x512) (k0_off2 c) S16x512.size (k0_off2_inb c)) (fun _ => rfl)) $$ HGown'; iintro HGown'
  rw [red_fold]
  iapply (wp_store_slice c gaM (Rect.unit (s := S512x512) (k0_off2 c) S16x512.size (k0_off2_inb c)) (fun _ => rfl)) $$ HGown'; iintro HGown'
  ihave HSown := (Entails.of_eq (own_intro c e2 fullShare (stgRow m c c))) $$ HSown'
  ihave HGown := (Entails.of_eq (own_intro c e3 fullShare (red m c))) $$ HGown'
  -- the all-gather's transfers, each from a lent share of those rows
  ihave HGl := (Entails.of_eq (own_lend c (gaRow c) (red m c) 31 fullShare)) $$ HGown
  icases HGl with ⟨HGkept, HGlent⟩
  iapply (wp_each c 31 (agSendP (F := F) gaM (Memref.isWhole_whole _) cc0_scratch3 cc0_scratch4 c)
      (fun n => iprop(records m K ∗ owesSome c (tail (owAG c) n)))
      (fun r => iprop(tokSend c 1 r ∗ tokRecv c 3 r ∗ own c (gaRow c) (lent r.val fullShare) (red m c) ∗ (∃ Y, own (F := F) (peer c r) (gaRow c) fullShare Y)))
      (fun r => cred (tallyAt (cell c (some (1, r))) () N)) (fun r α k Q => agSend_turn m K c r k Q) _ _) $$ [HO Ht1 Ht3 HGlent HLg]
  · isplitl [HO]
    · isplitr; · iexact HK
      iexact HO
    simp only [bigSep_sep']
    isplitl [Ht1]; · iexact Ht1
    isplitl [Ht3]; · iexact Ht3
    isplitl [HGlent]; · iexact HGlent
    iexact HLg
  rw [tail_end]
  iintro ⟨⟨-, HO⟩, Hc1⟩
  -- its receives
  iapply (wp_each c 31 (agRecvP (F := F) gaM (Memref.isWhole_whole _) cc0_scratch4 c)
      (fun n => iprop(records m K ∗ levAts L lv ∗ owesSome c 0))
      (fun r => iprop(posAt c 0 (some (3, r)) ∗ cred (tallyAt (cell c (some (3, r))) () N)))
      (fun r => iprop(posAt c 1 (some (3, r)) ∗ dmaPay m c 3 r))
      (fun r α k Q => wait_turn m K c 3 r _ (mayWait_zero c _) (ownRows gaM c) (ownRows gaM c) rfl k Q) _ _) $$ [HO Hp3 Hc3]
  · isplitl [HO]
    · isplitr; · iexact HK
      isplitr; · iexact Hlev
      iexact HO
    simp only [bigSep_sep']
    isplitl [Hp3]; · unfold posAt; iexact Hp3
    iexact Hc3
  simp only [bigSep_sep']
  iintro ⟨⟨-, -, HO⟩, Hp3, Hd3⟩
  -- all the rows are read, at the share that was kept, and the result stored
  ihave Hd3' := (Entails.of_eq ((pays3 m c).trans (gather_lend m c))) $$ Hd3
  icases Hd3' with ⟨HGk, HGl⟩
  ihave HG := (Entails.of_eq (gather_join m c (kept 31 fullShare))) $$ [HGkept HGk]
  · isplitl [HGkept] <;> iassumption
  iapply (wp_load_all c gaM z2) $$ HG; iintro HG
  iapply (wp_load_all c oM z2) $$ HZ; iintro HZ
  rw [out_fold]
  iapply (wp_store_whole c oM z2) $$ HZ; iintro HZ
  ihave HG' := (Entails.of_eq (gather_join m c (kept 31 fullShare)).symm) $$ HG
  icases HG' with ⟨HGkept, HGk⟩
  ihave HGs := (Entails.of_eq (gather_lend m c).symm) $$ [HGk HGl]
  · isplitl [HGk] <;> iassumption
  -- the device's own transfers are done
  iapply (wp_each c 31 (rsDoneP (F := F) stM (Memref.isWhole_whole _) rvM (Memref.isWhole_whole _) cc0_scratch3 c)
      (fun n => iprop(records m K ∗ levAts L lv ∗ owesSome c 0))
      (fun r => iprop(posAt c 0 (some (0, r)) ∗ cred (tallyAt (cell c (some (0, r))) () N)))
      (fun r => iprop(posAt c 1 (some (0, r)) ∗ dmaPay m c 0 r))
      (fun r α k Q => wait_turn m K c 0 r _ (mayWait_zero c _) (rvSlot r) (stageRows stM c r) rfl k Q) _ _) $$ [HO Hp0 Hc0]
  · isplitl [HO]
    · isplitr; · iexact HK
      isplitr; · iexact Hlev
      iexact HO
    simp only [bigSep_sep']
    isplitl [Hp0]; · unfold posAt; iexact Hp0
    iexact Hc0
  simp only [bigSep_sep']
  iintro ⟨⟨-, -, HO⟩, Hp0, Hd0⟩
  iapply (wp_each_end c 31 (agDoneP (F := F) gaM (Memref.isWhole_whole _) cc0_scratch3 c)
      (fun n => iprop(records m K ∗ levAts L lv ∗ owesSome c 0))
      (fun r => iprop(posAt c 0 (some (1, r)) ∗ cred (tallyAt (cell c (some (1, r))) () N)))
      (fun r => iprop(posAt c 1 (some (1, r)) ∗ dmaPay m c 1 r))
      (fun r α k Q => wait_turn m K c 1 r _ (mayWait_zero c _) (ownRows gaM c) (ownRows gaM c) rfl k Q) _) $$ [HO Hp1 Hc1]
  · isplitl [HO]
    · isplitr; · iexact HK
      isplitr; · iexact Hlev
      iexact HO
    simp only [bigSep_sep']
    isplitl [Hp1]; · unfold posAt; iexact Hp1
    iexact Hc1
  simp only [bigSep_sep']
  iintro ⟨⟨-, -, HO⟩, Hp1, Hd1⟩
  -- the buffers whole again
  ihave HS := (Entails.of_eq (stage_split m c).symm) $$ [HSown Hd0]
  · isplitl [HSown]; · iexact HSown
    iapply (Entails.of_eq (pays0 m c)) $$ Hd0
  ihave HGown := (Entails.of_eq (own_lend c (gaRow c) (red m c) 31 fullShare).symm) $$ [HGkept Hd1]
  · isplitl [HGkept]; · iexact HGkept
    iapply (Entails.of_eq (pays1 m c)) $$ Hd1
  ihave HG := (Entails.of_eq (gather_join m c fullShare)) $$ [HGown HGs]
  · isplitl [HGown] <;> iassumption
  -- the cells close
  rw [show (pure ⟨⟩ : Prog (KEff F) PUnit) = .ret ⟨⟩ from rfl]
  unfold WP
  rw [wp_ret]
  imod (close_all m K c) $$ [HpB Hp0 Hp1 Hp2 Hp3] with Hz
  · isplitr; · iexact HK
    rw [bigSep_cells]
    isplitl [HpB]; · unfold posAt; iexact HpB
    isplitl [Hp0]; · iexact Hp0
    isplitl [Hp1]; · iexact Hp1
    isplitl [Hp2]; · iexact Hp2
    iexact Hp3
  imodintro
  iapply Hk
  unfold bodyPost scratch operands
  isplitl [HS HR HG]
  · isplitl [HS]; · iexists _; iexact HS
    isplitl [HR]; · iexists _; iexact HR
    iexists _; iexact HG
  isplitl [Hz]; · iexact Hz
  isplitl [HO]; · iexact HO
  isplitl [HX HW HI HE]
  · isplitl [HX]; · iexact HX
    isplitl [HW]; · iexact HW
    isplitl [HI]; · iexact HI
    iexact HE
  iexact HZ

end Cert.Moe

end
-- ==== Proof.Deal.lean ====
/-
What the launch mints for the exchange, and how it is dealt: the cells' invariants to everyone, each duty's token to the
device that pays it, and to each device the credit for what the others owe it.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Families over the devices -/

/-- A family over devices and turns may be listed by turns first. -/
theorem bigSep_turns_first (T : Dev nD → Fin 31 → sProp 𝕄) :
    (bigSep Finset.univ fun c : Dev nD => bigSep Finset.univ fun r : Fin 31 => T c r)
      = bigSep Finset.univ fun r : Fin 31 => bigSep Finset.univ fun c : Dev nD => T c r := by
  have h1 := bigSep_univ_prod fun x : Dev nD × Fin 31 => T x.1 x.2
  have h2 := bigSep_univ_prod fun x : Fin 31 × Dev nD => T x.2 x.1
  have h3 := bigSep_univ_equiv (Equiv.prodComm (Fin 31) (Dev nD)) fun x : Dev nD × Fin 31 => T x.1 x.2
  exact h1.symm.trans (h3.trans h2)

/-- A family over devices and turns may be read at each turn's peers. -/
theorem turns (T : Dev nD → Fin 31 → sProp 𝕄) :
    (bigSep Finset.univ fun c : Dev nD => bigSep Finset.univ fun r : Fin 31 => T c r)
      = bigSep Finset.univ fun c : Dev nD => bigSep Finset.univ fun r : Fin 31 => T (peer c r) r := by
  rw [bigSep_turns_first, bigSep_turns_first fun (c : Dev nD) (r : Fin 31) => T (peer c r) r]
  exact bigSep_congr fun r _ => bigSep_univ_equiv (shift r) fun c => T c r

/-- A family over the transfer cells, kind by kind. -/
theorem bigSep_kinds (Φ : Fin 4 × Fin 31 → sProp 𝕄) :
    bigSep Finset.univ Φ = iprop(bigSep Finset.univ (fun r => Φ (0, r)) ∗ bigSep Finset.univ (fun r => Φ (1, r))
      ∗ bigSep Finset.univ (fun r => Φ (2, r)) ∗ bigSep Finset.univ (fun r => Φ (3, r))) := by
  rw [bigSep_univ_prod, bigSep_fin4]

/-- Something everyone may keep serves every member of a family. -/
theorem bigSep_sharing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (show _ ⊢ (bigSep S fun i => iprop(R ∗ Φ i) : sProp 𝕄) from ?_).trans (bigSep_mono h)
  rw [bigSep_sep']
  iintro ⟨#HR, H⟩
  isplitr; · iapply (bigSep_of_persistent S R) $$ HR
  iexact H

/-! ## The semaphores -/

/-- The kernel's own semaphores are the transfers' ones. -/
abbrev osem (x : Fin 4 × Fin 31) : SemLoc sig := csem (some x)

theorem ownSemFacts : Pipeline.OwnSemFacts cfg0.spec osem where
  isScoped := by decide +kernel
  inj := fun x y h => Option.some.inj (csem_inj h)
  disj := by decide +kernel

/-- The launch's one semaphore that outlives the call is the barrier's. -/
theorem unscopedSems0_eq (c : Dev nD) : (unscopedSems0 c : sProp 𝕄) = semVal (cell c none) 0 := by
  unfold unscopedSems0; rw [bigSep_eq_bigSepL_of_eq [SemLoc.reg barS] (by decide +kernel) (by decide)]; rfl

/-- A device's counters at zero, cell by cell. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : CK => semVal (cell c k) 0 : sProp 𝕄) := by
  rw [unscopedSems0_eq, bigSep_option]
  unfold Pipeline.ownSems0
  refine eq_of ?_ ?_
  · iintro ⟨HD, HB⟩
    isplitl [HB]; · iexact HB
    iexact HD
  · iintro ⟨HB, HD⟩
    isplitl [HD]; · iexact HD
    iexact HB

/-! ## What is minted -/

def allCells : Finset (GSem nD τ sig) := Finset.univ.map ⟨fun x : Dev nD × CK => cell x.1 x.2, cell_inj⟩

/-- The duties of a device's own cells: its barrier's thirty-one, and one of each transfer cell. -/
abbrev DK : Type := Fin 31 ⊕ (Fin 4 × Fin 31)

abbrev tokOf (x : Dev nD × DK) : GSem nD τ sig × ℕ × Fin 31 :=
  match x.2 with
  | .inl d => (cell x.1 none, 0, d)
  | .inr k => (cell x.1 (some k), 0, 0)

theorem tokOf_inj : Function.Injective tokOf := by
  rintro ⟨c, j⟩ ⟨c', j'⟩ h
  match j, j' with
  | .inl d, .inl d' =>
    have h1 := cell_inj (a₁ := (c, none)) (a₂ := (c', none)) (congrArg Prod.fst h)
    have h2 : d = d' := congrArg (fun t : GSem nD τ sig × ℕ × Fin 31 => t.2.2) h
    rw [(Prod.mk.inj h1).1, h2]
  | .inl d, .inr k =>
    have h1 := cell_inj (a₁ := (c, none)) (a₂ := (c', some k)) (congrArg Prod.fst h)
    exact absurd (Prod.mk.inj h1).2 (by simp)
  | .inr k, .inl d =>
    have h1 := cell_inj (a₁ := (c, some k)) (a₂ := (c', none)) (congrArg Prod.fst h)
    exact absurd (Prod.mk.inj h1).2 (by simp)
  | .inr k, .inr k' =>
    have h1 := cell_inj (a₁ := (c, some k)) (a₂ := (c', some k')) (congrArg Prod.fst h)
    obtain ⟨h2, h3⟩ := Prod.mk.inj h1
    rw [h2, Option.some.inj h3]

def allToks : Finset (GSem nD τ sig × ℕ × Fin 31) := Finset.univ.map ⟨tokOf, tokOf_inj⟩

def u₀ : UU := (initOf (Pipeline.cells cfgs cellOf_inj) (Pipeline.launchToks cfgs cellOf_inj), initOf allCells allToks)

/-- The tokens of the duties of device `c`'s own cells. -/
def toks (c : Dev nD) : sProp 𝕄 :=
  iprop(bigSep Finset.univ (fun d : Fin 31 => dutyTok ER (cell c none) 0 d) ∗ bigSep Finset.univ (fun k : Fin 4 × Fin 31 => dutyTok ER (cell c (some k)) 0 0))

/-- A device's cells' positions and that each is at its first round. -/
def posns (c : Dev nD) : sProp 𝕄 := bigSep Finset.univ fun k : CK => iprop(posAt c 0 k ∗ reached ER (cell c k) 0)

/-- What is minted for device `c`. -/
def G (c : Dev nD) : sProp 𝕄 :=
  iprop((bigSep Finset.univ fun k : CK => roundState ER (Rd m) (cell c k) 0) ∗ posns c ∗ toks c)

/-- What device `c` then has for the exchange. -/
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks; rw [BI.bigSep_map, bigSep_univ_prod]
    exact bigSep_congr fun c _ => by unfold toks; rw [BI.bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns posAt; simp only [bigSep_sep']
  isplitl [Hst']; · iexact Hst'
  isplitl [Hat' Hr']
  · isplitl [Hat'] <;> iassumption
  iexact Htok'

/-! ## Dealing -/

/-- The invariants of a device's cells come from its counters and the minted round states. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k))) ∗ posns c ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks (c : Dev nD) : sProp 𝕄 :=
  iprop(bigSep Finset.univ (tokBar c) ∗ bigSep Finset.univ (tokSend c 0) ∗ bigSep Finset.univ (tokSend c 1)
    ∗ bigSep Finset.univ (tokRecv c 2) ∗ bigSep Finset.univ (tokRecv c 3))

/-- A device's tokens go to the payers: its barrier's and its receive cells' to its peers. -/
theorem toks_around : (bigSep Finset.univ fun c : Dev nD => (toks c : sProp 𝕄)) ⊢ bigSep Finset.univ fun c : Dev nD => payToks c := by
  have hb : (bigSep Finset.univ fun c : Dev nD => bigSep Finset.univ fun d : Fin 31 => (dutyTok ER (cell c none) 0 d : sProp 𝕄))
      = bigSep Finset.univ fun c : Dev nD => bigSep Finset.univ (tokBar c) := by
    rw [bigSep_congr (s := Finset.univ) (fun (c : Dev nD) _ => bigSep_univ_equiv Fin.revPerm fun d : Fin 31 => (dutyTok ER (cell c none) 0 d : sProp 𝕄)),
      turns]
    rfl
  have hr (p : Fin 4) : (bigSep Finset.univ fun c : Dev nD => bigSep Finset.univ fun r : Fin 31 => (dutyTok ER (cell c (some (p, r))) 0 0 : sProp 𝕄))
      = bigSep Finset.univ fun c : Dev nD => bigSep Finset.univ (tokRecv c p) := by
    rw [turns]; rfl
  unfold toks payToks
  simp only [bigSep_kinds, bigSep_sep']
  rw [hb, hr 2, hr 3]
  iintro ⟨HB, H0, H1, H2, H3⟩
  isplitl [HB]; · iexact HB
  isplitl [H0]; · iexact H0
  isplitl [H1]; · iexact H1
  isplitl [H2] <;> iassumption

theorem linear_intro (c : Dev nD) : iprop(bigSep Finset.univ (posAt (F := F) c 0) ∗ payToks c) ⊢ (linear c : sProp 𝕄) := by
  unfold linear payToks
  rw [bigSep_cells]

theorem regroup :
    (bigSep Finset.univ fun c : Dev nD => iprop((bigSep Finset.univ fun k : CK => iprop(∃ κ : ℕ, cellInv ER (Rd m) κ (cell c k))) ∗ posns c ∗ toks c) : sProp 𝕄)
      ⊢ bigSep Finset.univ (G' m) := by
  unfold posns
  simp only [bigSep_sep']
  rw [← bigSep_univ_prod (fun x : Dev nD × CK => iprop(∃ κ : ℕ, cellInv ER (Rd m) κ (cell x.1 x.2))),
    ← bigSep_univ_prod (fun x : Dev nD × CK => (reached ER (cell x.1 x.2) 0 : sProp 𝕄))]
  iintro ⟨HI, ⟨Hat, #HR⟩, Htok⟩
  ihave HK := (BI.bigSep_exists_pi Finset.univ (fun (x : Dev nD × CK) (κ : ℕ) => (cellInv ER (Rd m) κ (cell x.1 x.2) : sProp 𝕄))) $$ HI
  icases HK with ⟨%K, #HI⟩
  ihave Htk := (toks_around (F := F)) $$ Htok
  iapply (bigSep_sharing (R := records m K) (Φ := fun c => iprop(bigSep Finset.univ (posAt (F := F) c 0) ∗ payToks c)) fun c _ => by
    unfold G'
    iintro ⟨#HR, H⟩
    iexists K
    isplitr; · iexact HR
    iapply (linear_intro c) $$ H)
  isplitr
  · unfold records
    isplitl
    · iexact HI
    iexact HR
  · rw [bigSep_sep']
    isplitl [Hat]; · iexact Hat
    iexact Htk

/-- From every device's counters and minted state to every device's start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem tail_zero (f : Fin 31 → CellTallies nD τ sig Unit) : tail f 0 = ∑ r, f r :=
  Finset.sum_congr rfl fun r _ => if_pos (Nat.zero_le _)

/-- What is owed turn by turn to the same cell of the turn's peer is credited turn by turn. -/
theorem cred_turns (sm : Fin 31 → SemLoc sig) (n : ℕ) (c : Dev nD) :
    (Pipeline.launchCred (fun d => tail (fun r => tallyAt ((peer d r : Thread nD τ), sm r) () n) 0) c : sProp 𝕄)
      ⊢ bigSep Finset.univ fun r => cred (tallyAt ((c : Thread nD τ), sm r) () n) := by
  rw [show (fun d : Dev nD => tail (fun r => tallyAt ((peer d r : Thread nD τ), sm r) () n) 0)
    = fun d => ∑ r ∈ (Finset.univ : Finset (Fin 31)), tallyAt ((peer d r : Thread nD τ), sm r) () n from funext fun d => tail_zero _,
    Pipeline.launchCred_sum]
  exact bigSep_mono fun r _ => Pipeline.launchCred_tallyAt (sm r) (fun d => peer d r) (fun d => from' d r)
    (fun d => peer_from d r) (fun d => from_peer d r) () n c

theorem tallyAt_times (g : GSem nD τ sig) (n : ℕ) : n • (tallyAt g () 1 : CellTallies nD τ sig Unit) = tallyAt g () n := by
  induction n with
  | zero => rw [zero_smul, tallyAt_zero]
  | succ n ih => rw [succ_nsmul, ih, tallyAt_add]

theorem creds_intro (c : Dev nD) : (Pipeline.launchCred O₀ c : sProp 𝕄) ⊢ creds c := by
  have hB : (Pipeline.launchCred (fun d => tail (owBar d) 0) c : sProp 𝕄) ⊢ _ := cred_turns (F := F) (fun _ => csem none) 1 c
  have h2 : (Pipeline.launchCred (fun d => tail (owRS d) 0) c : sProp 𝕄) ⊢ _ := cred_turns (F := F) (fun r => csem (some (2, r))) N c
  have h3 : (Pipeline.launchCred (fun d => tail (owAG d) 0) c : sProp 𝕄) ⊢ _ := cred_turns (F := F) (fun r => csem (some (3, r))) N c
  have hsum : (bigSep Finset.univ fun r : Fin 31 => cred (tallyAt (cell c none) () 1) : sProp 𝕄) ⊢ cred (tallyAt (cell c none) () 31) := by
    rw [← Pipeline.cred_finsetSum Finset.univ fun _ : Fin 31 => tallyAt (cell c none) () 1]
    refine Entails.of_eq (congrArg cred ?_)
    rw [Finset.sum_const, Finset.card_univ, Fintype.card_fin, tallyAt_times]
  rw [show (O₀ : Dev nD → CellTallies nD τ sig Unit) = fun d => (tail (owAG d) 0 + tail (owRS d) 0) + tail (owBar d) 0 from rfl,
    Pipeline.launchCred_add, Pipeline.launchCred_add]
  unfold creds
  iintro ⟨⟨H3, H2⟩, HB⟩
  isplitl [HB]
  · iapply hsum
    iapply hB $$ HB
  isplitl [H2]
  · iapply h2 $$ H2
  iapply h3 $$ H3

end Cert.Moe

end
-- ==== Proof.Run.lean ====
/-
The whole launch: the pipeline's data around the exchange, and the run of the program on every device, for any float values.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The initial state: any memory, counters at zero. -/
abbrev s₀ : MemSt nD τ sig (Elt F) := ⟨m, fun _ => 0, ρ⟩

/-- What the body's one point starts from and what it leaves, apart from its windows. -/
def Φ₀ (c : Dev nD) : sProp 𝕄 := iprop(start m c ∗ scratch c)
def Φ₁ (c : Dev nD) : sProp 𝕄 := iprop(scratch c ∗ bigSep Finset.univ (fun k : CK => semVal (cell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => rB m c
    | ⟨2, _⟩ => iB m c
    | ⟨3, _⟩ => eB m c
    | ⟨4, _⟩ => outB m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at some contents. -/
theorem own_some (c : Dev nD) (b : Ref sig .tc) :
    iprop(∃ X, owns (Ix := Unit) (Name := ℕ) (U := UU) (Lvl := ℕ) (c : Thread nD τ) (Memref.whole b) fullShare X)
      = (iprop(∃ f : Buf (Elt F) (((c : Dev nD) : Thread nD τ).loc b), ((c : Thread nD τ).loc b) ↦{fullShare} f) : sProp 𝕄) := by
  simp only [owns_whole_eq]
  refine eq_of ?_ ?_
  · iintro ⟨%X, %f, -, H⟩
    iexists f; iexact H
  · iintro ⟨%f, H⟩
    iexists f, f
    isplitr; · (ipureintro; rfl)
    iexact H

theorem scratch_eq (c : Dev nD) : (scratch c : sProp 𝕄) = Pipeline.scopedRest cfg0.spec c := by
  unfold scratch
  rw [show (Pipeline.scopedRest cfg0.spec c : sProp 𝕄) = _ from scopedRest0_eq c]
  exact congrArg₂ BIBase.sep (own_some c cc0_scratch0) (congrArg₂ BIBase.sep (own_some c cc0_scratch1) (own_some c cc0_scratch2))

/-! ## The body's obligation -/

/-- The call's body on its staging buffers, and in the turns' form. -/
theorem body_call (t : Fin cfg0.N) : defs₀ (F := F) .tc cfg0.body (cfg0.bodyArgs t (cfg0.slots t)) = bodyAt0 t := rfl

seal cc0_body in
theorem body_looped : bodyAt0 (F := F) t0_0
    = (Prog.lift .deviceId >>= fun d => loopedP xM rM iM eM oM stM (Memref.isWhole_whole _) rvM (Memref.isWhole_whole _) gaM (Memref.isWhole_whole _) cc0_scratch3 cc0_scratch4 d) :=
  (show bodyAt0 (F := F) t0_0 = cc0_body xM (Memref.isWhole_whole _) rM (Memref.isWhole_whole _) iM (Memref.isWhole_whole _) eM (Memref.isWhole_whole _) oM (Memref.isWhole_whole _)
        stM (Memref.isWhole_whole _) rvM (Memref.isWhole_whole _) gaM (Memref.isWhole_whole _) cc0_scratch3 cc0_scratch4 from rfl).trans (body_eq_looped _ _ _ _ _ _ _ _ _ _ _ _ _ _ _ _ _ _)

seal loopedP in
set_option maxRecDepth 4000 in
theorem body_obligation (c : Dev nD) : BodyObligation (dats m ρ 0 c) (defs₀ (F := F)) 𝒱₀ () Set.univ := fun t => by
  rw [fin_N0 t, body_call, body_looped]
  rw [bigSep_W0, bigSep_W0]
  show iprop(Φ₀ m c ∗ (dats m ρ 0 c).owesAt () t0_0.castSucc
      ∗ (∃ d, own c xM fullShare ((dats m ρ 0 c).before (0 : Fin 5) t0_0 d))
      ∗ (∃ d, own c rM fullShare ((dats m ρ 0 c).before (1 : Fin 5) t0_0 d))
      ∗ (∃ d, own c iM fullShare ((dats m ρ 0 c).before (2 : Fin 5) t0_0 d))
      ∗ (∃ d, own c eM fullShare ((dats m ρ 0 c).before (3 : Fin 5) t0_0 d))
      ∗ (∃ d, own c oM fullShare ((dats m ρ 0 c).before (4 : Fin 5) t0_0 d)))
    ⊢ wp frame (wpE (defs₀ (F := F)) 𝒱₀ c none) Set.univ
      (Prog.lift .deviceId >>= fun d => loopedP xM rM iM eM oM stM (Memref.isWhole_whole _) rvM (Memref.isWhole_whole _) gaM (Memref.isWhole_whole _) cc0_scratch3 cc0_scratch4 d)
      (fun _ => iprop(Φ₁ c ∗ (dats m ρ 0 c).owesAt () t0_0.succ
        ∗ own c xM fullShare (xB m c) ∗ own c rM fullShare (rB m c) ∗ own c iM fullShare (iB m c) ∗ own c eM fullShare (eB m c) ∗ own c oM fullShare (outB m)))
  simp only [Prog.lift, Prog.bind_op, Prog.bind_ret, wp_deviceId]
  unfold Φ₀ Φ₁ start Dat.owesAt Pipeline.owesWithin
  rw [show (dats m ρ 0 c).owed t0_0.castSucc = O₀ c from rfl, show (dats m ρ 0 c).owed t0_0.succ = 0 from rfl]
  have h0 : ∀ d, (dats m ρ 0 c).before (0 : Fin 5) t0_0 d = xB m c := fun d => by
    unfold Dat.before; rw [if_pos (fetch0_0 t0_0)]; rfl
  have h1 : ∀ d, (dats m ρ 0 c).before (1 : Fin 5) t0_0 d = rB m c := fun d => by
    unfold Dat.before; rw [if_pos (fetch0_1 t0_0)]; rfl
  have h2 : ∀ d, (dats m ρ 0 c).before (2 : Fin 5) t0_0 d = iB m c := fun d => by
    unfold Dat.before; rw [if_pos (fetch0_2 t0_0)]; rfl
  have h3 : ∀ d, (dats m ρ 0 c).before (3 : Fin 5) t0_0 d = eB m c := fun d => by
    unfold Dat.before; rw [if_pos (fetch0_3 t0_0)]; rfl
  simp only [h0, h1, h2, h3]
  iintro ⟨⟨⟨⟨%K, HK, Hl⟩, Hc, Hv⟩, HS⟩, ⟨%W, -, HO⟩, ⟨%d0, H0⟩, ⟨%d1, H1⟩, ⟨%d2, H2⟩, ⟨%d3, H3⟩, ⟨%d4, H4⟩⟩
  iapply (sound_body m K c _)
  unfold bodyPre bodyPost owesSome operands
  isplitl
  · isplitl [HK Hl Hc Hv]
    · isplitl [HK]; · iexact HK
      isplitl [Hl]; · iexact Hl
      isplitl [Hc] <;> iassumption
    isplitl [HO]
    · iexists W; iexact HO
    isplitl [HS]; · iexact HS
    isplitl [H0 H1 H2 H3]
    · isplitl [H0]; · iexact H0
      isplitl [H1]; · iexact H1
      isplitl [H2] <;> iassumption
    iexists _; iexact H4
  iintro ⟨HS, Hz, ⟨%W', HO⟩, ⟨H0, H1, H2, H3⟩, H4⟩
  isplitl [HS Hz]
  · isplitl [HS] <;> iassumption
  isplitl [HO]
  · iexists W'
    isplitr; · (ipureintro; exact fun _ _ => Or.inl trivial)
    iexact HO
  isplitl [H0]; · iexact H0
  isplitl [H1]; · iexact H1
  isplitl [H2]; · iexact H2
  isplitl [H3] <;> iassumption

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← scratch_eq]
  unfold Φ₁
  iintro ⟨Hr, Hz⟩
  ihave Hz' := (Entails.of_eq (sems0_eq (F := F) c).symm) $$ Hz
  icases Hz' with ⟨Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

seal cc0_body in
set_option maxRecDepth 8000 in
/-- For any float values, from any memory with zero counters: every weakly fair execution of the program on all devices
    ends, and at its end each device's arrays hold the computed contents and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- Each operand's array holds what it held: its window is never written back. -/
theorem final_arg0 (c : Dev nD) : finalA m ρ c (0 : Fin 5) = m ((c : Thread nD τ).loc main_arg0) := (dats m ρ 0 c).arrAt_in (0 : Fin 5) rfl _

theorem final_arg1 (c : Dev nD) : finalA m ρ c (1 : Fin 5) = m ((c : Thread nD τ).loc main_arg1) := (dats m ρ 0 c).arrAt_in (1 : Fin 5) rfl _

theorem final_arg2 (c : Dev nD) : finalA m ρ c (2 : Fin 5) = m ((c : Thread nD τ).loc main_arg2) := (dats m ρ 0 c).arrAt_in (2 : Fin 5) rfl _

theorem final_arg3 (c : Dev nD) : finalA m ρ c (3 : Fin 5) = m ((c : Thread nD τ).loc main_arg3) := (dats m ρ 0 c).arrAt_in (3 : Fin 5) rfl _

/-- The window of the result is the whole array, and its one point writes it back. -/
theorem mem_out (t : Fin cfg0.N) (i : S512x512.Idx) : i ∈ ((cfg0.win 4).blk t).view.set := by
  show i ∈ ((View.whole main_v1).slice (win0_4.rect t)).set
  rw [View.set_slice_whole, Rect.mem_set_unit]
  have h0 : (i 0 : Nat) < 512 := (i 0).isLt
  have h1 : (i 1 : Nat) < 512 := (i 1).isLt
  have e : win0_4.index t 0 * win0_4.size 0 = 0 ∧ win0_4.xsize (grid0.coords t) 0 = 512
      ∧ win0_4.index t 1 * win0_4.size 1 = 0 ∧ win0_4.xsize (grid0.coords t) 1 = 512 := by
    rcases fin_N0 t with rfl; decide +kernel
  intro a
  match a with
  | 0 => refine ⟨?_, ?_⟩
         · show win0_4.index t 0 * win0_4.size 0 ≤ _
           omega
         · show _ < win0_4.index t 0 * win0_4.size 0 + win0_4.xsize (grid0.coords t) 0
           rw [e.1, e.2.1]; omega
  | 1 => refine ⟨?_, ?_⟩
         · show win0_4.index t 1 * win0_4.size 1 ≤ _
           omega
         · show _ < win0_4.index t 1 * win0_4.size 1 + win0_4.xsize (grid0.coords t) 1
           rw [e.2.2.1, e.2.2.2]; omega

/-- So each device's result array holds what the body left in the window. -/
theorem final_out (c : Dev nD) : finalA m ρ c (4 : Fin 5) = outB m :=
  (dats m ρ 0 c).arrAt_eq_of_cover (4 : Fin 5) (outB m) (fun t _ => by
    obtain rfl := fin_N0 t
    have ha : (dats m ρ 0 c).after 4 t0_0 = outB m := rfl
    unfold Pipeline.Dat.flushed
    rw [ha]
    funext y
    show outB m _ = outB m _
    congr 1
    funext a
    match a with
    | 0 => exact Fin.ext (by show (y 0 : ℕ) = 0 + 1 * (y 0 : ℕ); omega)
    | 1 => exact Fin.ext (by show (y 1 : ℕ) = 0 + 1 * (y 1 : ℕ); omega)) (fun i => ⟨t0_0, flush0_4 _, mem_out _ i⟩)

end Cert.Moe

end
-- ==== Proof.Same.lean ====
/- The kernel read at the bit-exact floats and the kernel read at the ideal floats are one text, so their bodies and
   their definitions are equal over any float values. -/
module

public import proofs.«01_k».proof.Proof.Gen.Kernel
public import proofs.«01_k».proof.Proof.Gen.KernelIdeal

@[expose] public section

noncomputable section

namespace Cert.Moe

open Idealize.ShloMosaic

attribute [local instance] Cert.Kernel.Gen.facts Cert.KernelIdeal.Gen.facts

variable {F : FTy → Type} [FloatOps F]

set_option maxRecDepth 100000 in
/-- The two bodies are one. -/
theorem body_same : Cert.Kernel.cc0_body (F := F) = Cert.KernelIdeal.cc0_body (F := F) := rfl

/-- So the two tables of bodies are one: each has the one entry. -/
theorem defs₀_same : Cert.Kernel.defs₀ (F := F) = Cert.KernelIdeal.defs₀ (F := F) := by
  unfold Cert.Kernel.defs₀ Cert.KernelIdeal.defs₀
  rw [body_same]
  congr 1
  funext l a
  match l, a with
  | 0, (t, s) => rfl

/-- And so are the two tables with the launch added. -/
theorem defs_same : Cert.Kernel.defs (F := F) = Cert.KernelIdeal.defs (F := F) := by
  unfold Cert.Kernel.defs Cert.KernelIdeal.defs
  rw [defs₀_same]
  rfl

end Cert.Moe

end
-- ==== Proof.Answer.lean ====
/-
The answer, as mathematics of extended reals: the scores of a row, the weight of an expert, the product of a row with an
expert's matrix, and the sum of the two chosen experts' products by their gates.  When the scores are finite every
weight is a positive real; then the gate does not depend on the weights' common scale, and a gate may be taken out of
the product.
-/
module

public import Idealize.ShloMosaic.PureOps.Ideal.Laws
public import Idealize.ShloMosaic.Lib.ValueIdx

@[expose] public section

noncomputable section

namespace Cert.Moe

open Idealize.ShloMosaic Idealize.ShloMosaic.ValueIdx
open scoped BigOperators

/-- The scores of row `n`: the row of `X` times the router's matrix `R`. -/
def score (X : (⟨2, ![512, 256]⟩ : Shape).Idx → EReal) (R : (⟨2, ![256, 64]⟩ : Shape).Idx → EReal) (n : Fin 512) (e : Fin 64) : EReal :=
  ∑ k : Fin 256, X (ix2 n k) * R (ix2 k e)

/-- The largest score. -/
def top (s : Fin 64 → EReal) : EReal := (Finset.univ : Finset (Fin 64)).fold max ⊥ s

/-- An expert's weight: the exponential of its score's distance to the largest. -/
def wgt (s : Fin 64 → EReal) (e : Fin 64) : EReal := Ideal.exp (s e - top s)

/-- Row `n` of `X` times column `h` of expert `e`'s matrix. -/
def through (X : (⟨2, ![512, 256]⟩ : Shape).Idx → EReal) (W : (⟨3, ![64, 256, 512]⟩ : Shape).Idx → EReal) (n h : Fin 512) (e : Fin 64) : EReal :=
  ∑ k : Fin 256, X (ix2 n k) * W (ix3 e k h)

/-- The gate of a weight against the two chosen ones' sum. -/
def gate (s : Fin 64 → EReal) (a b e : Fin 64) : EReal := Ideal.div (wgt s e) (wgt s a + wgt s b)

/-- The answer at row `n`, column `h`, the row's chosen experts being `a` and `b`. -/
def answer (X : (⟨2, ![512, 256]⟩ : Shape).Idx → EReal) (R : (⟨2, ![256, 64]⟩ : Shape).Idx → EReal)
    (W : (⟨3, ![64, 256, 512]⟩ : Shape).Idx → EReal) (n h : Fin 512) (a b : Fin 64) : EReal :=
  gate (score X R n) a b a * through X W n h a + gate (score X R n) a b b * through X W n h b

/-! ## Finite scores -/

/-- A value is finite when it is a real. -/
def Fin' (x : EReal) : Prop := ∃ r : ℝ, x = (r : EReal)

theorem fin_sum {ι : Type} (S : Finset ι) (f : ι → EReal) (hf : ∀ i, Fin' (f i)) : Fin' (∑ i ∈ S, f i) := by
  classical
  induction S using Finset.induction_on with
  | empty => exact ⟨0, by simp⟩
  | insert a S ha ih =>
    obtain ⟨r, hr⟩ := hf a
    obtain ⟨q, hq⟩ := ih
    exact ⟨r + q, by rw [Finset.sum_insert ha, hr, hq, EReal.coe_add]⟩

/-- Finite rows and a finite router give finite scores. -/
theorem fin_score {X : (⟨2, ![512, 256]⟩ : Shape).Idx → EReal} {R : (⟨2, ![256, 64]⟩ : Shape).Idx → EReal}
    (hX : ∀ i, Fin' (X i)) (hR : ∀ i, Fin' (R i)) (n : Fin 512) (e : Fin 64) : Fin' (score X R n e) :=
  fin_sum _ _ fun k => by
    obtain ⟨r, hr⟩ := hX (ix2 n k)
    obtain ⟨q, hq⟩ := hR (ix2 k e)
    exact ⟨r * q, by rw [hr, hq, EReal.coe_mul]⟩

theorem fin_top {s : Fin 64 → EReal} (hs : ∀ e, Fin' (s e)) : Fin' (top s) := by
  have h1 : top s ≠ ⊥ := fun h => by
    obtain ⟨r, hr⟩ := hs 0
    have : s 0 ≤ top s := (Finset.le_fold_max (s 0)).2 (.inr ⟨0, Finset.mem_univ _, le_rfl⟩)
    rw [h, hr] at this
    exact EReal.coe_ne_bot r (le_bot_iff.1 this)
  have h2 : top s ≠ ⊤ := (Finset.fold_max_lt ⊤).2 ⟨bot_lt_top, fun e _ => by
    obtain ⟨r, hr⟩ := hs e
    rw [hr]; exact EReal.coe_lt_top r⟩ |>.ne
  exact ⟨(top s).toReal, (EReal.coe_toReal h2 h1).symm⟩

/-- With finite scores the weights are positive reals. -/
theorem wgt_pos {s : Fin 64 → EReal} (hs : ∀ e, Fin' (s e)) : ∃ w : Fin 64 → ℝ, (∀ e, 0 < w e) ∧ ∀ e, wgt s e = (w e : EReal) := by
  obtain ⟨t, ht⟩ := fin_top hs
  choose r hr using hs
  refine ⟨fun e => Real.exp (r e - t), fun e => Real.exp_pos _, fun e => ?_⟩
  unfold wgt
  rw [ht, hr e, ← EReal.coe_sub]
  rfl

/-! ## Gates -/

theorem div_real (a b : ℝ) (hb : b ≠ 0) : Ideal.div (a : EReal) (b : EReal) = ((a / b : ℝ) : EReal) := by
  rw [Ideal.div_coe hb, ← EReal.coe_mul, mul_one_div]

/-- A gate is a real that is not negative. -/
theorem gate_real {s : Fin 64 → EReal} (hs : ∀ e, Fin' (s e)) (a b e : Fin 64) : ∃ g : ℝ, 0 ≤ g ∧ gate s a b e = (g : EReal) := by
  obtain ⟨w, hw, hv⟩ := wgt_pos hs
  refine ⟨w e / (w a + w b), div_nonneg (hw e).le (add_pos (hw a) (hw b)).le, ?_⟩
  unfold gate
  rw [hv, hv, hv, ← EReal.coe_add, div_real _ _ (add_pos (hw a) (hw b)).ne']

/-- Weights divided by their common sum first give the same gate. -/
theorem gate_normalized {s : Fin 64 → EReal} (hs : ∀ e, Fin' (s e)) (a b e : Fin 64) :
    Ideal.div (Ideal.div (wgt s e) (∑ i, wgt s i)) (Ideal.div (wgt s a) (∑ i, wgt s i) + Ideal.div (wgt s b) (∑ i, wgt s i)) = gate s a b e := by
  obtain ⟨w, hw, hv⟩ := wgt_pos hs
  have hS : (∑ i, wgt s i) = ((∑ i, w i : ℝ) : EReal) := by
    have : ∀ S : Finset (Fin 64), (∑ i ∈ S, wgt s i) = ((∑ i ∈ S, w i : ℝ) : EReal) := fun S => by
      induction S using Finset.induction_on with
      | empty => simp
      | insert i S hi ih => rw [Finset.sum_insert hi, Finset.sum_insert hi, ih, hv, EReal.coe_add]
    exact this _
  have hpos : 0 < ∑ i, w i := Finset.sum_pos (fun i _ => hw i) ⟨0, Finset.mem_univ _⟩
  have hab := add_pos (hw a) (hw b)
  unfold gate
  rw [hS, hv, hv, hv, div_real _ _ hpos.ne', div_real _ _ hpos.ne', div_real _ _ hpos.ne', ← EReal.coe_add, ← EReal.coe_add,
    div_real _ _ (by rw [← add_div]; exact (div_pos hab hpos).ne'), div_real _ _ hab.ne', ← add_div, div_div_div_cancel_right₀ hpos.ne']

/-- A gate on the rows comes out of the product. -/
theorem gated_out {ι : Type} (S : Finset ι) (g : ℝ) (hg : 0 ≤ g) (x w : ι → EReal) :
    ∑ k ∈ S, x k * (g : EReal) * w k = (g : EReal) * ∑ k ∈ S, x k * w k := by
  classical
  induction S using Finset.induction_on with
  | empty => simp
  | insert a S ha ih =>
    rw [Finset.sum_insert ha, Finset.sum_insert ha, ih,
      EReal.left_distrib_of_nonneg_of_ne_top (EReal.coe_nonneg.2 hg) (EReal.coe_ne_top g), mul_comm (x a), mul_assoc]

/-- An expert that is not chosen adds nothing. -/
theorem ungated {ι : Type} (S : Finset ι) (x w : ι → EReal) : ∑ k ∈ S, x k * 0 * w k = 0 :=
  Finset.sum_eq_zero fun k _ => by rw [mul_zero, zero_mul]

/-- What expert `e` adds: the row, gated if `e` is chosen, times its matrix. -/
def adds (X : (⟨2, ![512, 256]⟩ : Shape).Idx → EReal) (R : (⟨2, ![256, 64]⟩ : Shape).Idx → EReal)
    (W : (⟨3, ![64, 256, 512]⟩ : Shape).Idx → EReal) (n h : Fin 512) (a b e : Fin 64) : EReal :=
  ∑ k : Fin 256, X (ix2 n k) * (if a = e ∨ b = e then gate (score X R n) a b e else 0) * W (ix3 e k h)

/-- Over all the experts that is the answer. -/
theorem sum_adds {X : (⟨2, ![512, 256]⟩ : Shape).Idx → EReal} {R : (⟨2, ![256, 64]⟩ : Shape).Idx → EReal}
    (W : (⟨3, ![64, 256, 512]⟩ : Shape).Idx → EReal) (hX : ∀ i, Fin' (X i)) (hR : ∀ i, Fin' (R i))
    (n h : Fin 512) {a b : Fin 64} (hab : a ≠ b) : ∑ e, adds X R W n h a b e = answer X R W n h a b := by
  have hs := fin_score hX hR n
  have hon : ∀ e, (a = e ∨ b = e) → adds X R W n h a b e = gate (score X R n) a b e * through X W n h e := fun e he => by
    obtain ⟨g, hg, hv⟩ := gate_real hs a b e
    unfold adds through
    rw [if_pos he, hv]
    exact gated_out _ g hg _ _
  have hoff : ∀ e, ¬ (a = e ∨ b = e) → adds X R W n h a b e = 0 := fun e he => by
    unfold adds
    rw [if_neg he]
    exact ungated _ _ _
  rw [← Finset.sum_subset (Finset.subset_univ {a, b}) (fun e _ he => hoff e (by
    simp only [Finset.mem_insert, Finset.mem_singleton, not_or] at he
    exact fun h => h.elim (fun h => he.1 h.symm) (fun h => he.2 h.symm))),
    Finset.sum_pair hab, hon a (.inl rfl), hon b (.inr rfl)]
  rfl

end Cert.Moe

end
-- ==== Proof.Stage.lean ====
/-
What one device stages, read at an index at the ideal values: the gated products of a token with the device's two
experts.
-/
module

public import proofs.«01_k».proof.Proof.Protocol
public import proofs.«01_k».proof.Proof.Answer
public import Idealize.ShloMosaic.Lib.Pipeline.Value
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.StableHlo.Predicate
public import Idealize.ShloMosaic.Lib.KernelVsHost
public import Idealize.ShloMosaic.Lib.StackMember

@[expose] public section

noncomputable section

namespace Cert.Moe

open Cert.KernelIdeal Cert.KernelIdeal.Gen
open Idealize.ShloMosaic Idealize.ShloMosaic.ValueIdx
open scoped BigOperators

/-! ## One operation at an index -/

/-- A column spread over the lanes reads the column. -/
theorem spread_apply {α : Type} {k : ℕ} (v : (⟨2, ![512, 1]⟩ : Shape).Idx → α) (h : (⟨2, ![512, 1]⟩ : Shape).Broadcasts ⟨2, ![512, k]⟩)
    (n : Fin 512) (e : Fin k) : broadcastTo ⟨2, ![512, k]⟩ v h (ix2 n e) = v (ix2 n 0) :=
  broadcastTo_apply v h _ _ fun a => match a with
    | ⟨0, _⟩ => rfl
    | ⟨1, _⟩ => rfl

/-- A sum along the lanes. -/
theorem laneSum_apply (v : FVec Ideal S512x64 .f32) (n : Fin 512) :
    multiReduction .add [1] S512 v 0x00000000#32 reduces_S512x64_S512 (.inl rfl) rfl (ix1 n) = ∑ e : Fin 64, v (ix2 n e) := by
  refine (Ideal.multiReduction_add_single v _ _ _ _ _).trans (Finset.sum_congr rfl fun e _ => congrArg v ?_)
  exact funext fun a => match a with
    | ⟨0, _⟩ => rfl
    | ⟨1, _⟩ => rfl

theorem neg_inf : (FloatOps.ofBits .f32 0xFF800000#32 : Ideal .f32) = (⊥ : EReal) := by
  show Ideal.ofBits .f32 0xFF800000#32 = ⊥
  simp [Ideal.ofBits, Ideal.ieee]

/-- A maximum along the lanes. -/
theorem laneMax_apply (v : FVec Ideal S512x64 .f32) (n : Fin 512) :
    multiReduction .maximumf [1] S512 v 0xFF800000#32 reduces_S512x64_S512 (.inl rfl) rfl (ix1 n) = top fun e => v (ix2 n e) := by
  refine (Ideal.multiReduction_maximumf_single v _ _ _ _ _).trans ?_
  rw [neg_inf]
  refine Finset.fold_congr fun e _ => congrArg v ?_
  exact funext fun a => match a with
    | ⟨0, _⟩ => rfl
    | ⟨1, _⟩ => rfl

/-- Of the lanes only the one whose number is the word counts. -/
theorem pick (f : Fin 64 → EReal) (v : BitVec 32) (e : Fin 64) (hv : v = BitVec.ofNat 32 e.val) (z : EReal) (hz : z = 0) :
    ∑ k : Fin 64, Scalar.select (IntOp.cmpi .eq (BitVec.ofNat 32 k.val) v) (f k) z = f e := by
  subst hv; subst hz
  rw [Finset.sum_eq_single e]
  · rw [show IntOp.cmpi .eq (BitVec.ofNat 32 e.val) (BitVec.ofNat 32 e.val) = 1#1 from StableHlo.Predicate.cmpi_eq_iff.2 rfl]
    rfl
  · intro k _ hk
    have : IntOp.cmpi .eq (BitVec.ofNat 32 k.val) (BitVec.ofNat 32 e.val) ≠ 1#1 := fun h => hk <| Fin.ext <| by
      have := congrArg BitVec.toNat (StableHlo.Predicate.cmpi_eq_iff.1 h)
      simp only [BitVec.toNat_ofNat] at this
      have := k.isLt; have := e.isLt
      omega
    rw [eq_zero_of_ne_one this]
    rfl
  · exact fun h => absurd (Finset.mem_univ _) h

/-! ## The payloads at an index -/

variable (x : FVec Ideal S512x256 .bf16) (r : FVec Ideal S256x64 .bf16)

theorem pay1_eq : k0_pay1 (F := Ideal) x = x := shapeCast_self _ _

/-- The router's product is the row's scores. -/
theorem scores_apply (n : Fin 512) (e : Fin 64) :
    matmul (F := Ideal) dot_S512x256_S256x64_S512x64_1_0_0_1_n_n none x r (constant S512x64 .f32 0x00000000#32) (ix2 n e) = score x r n e := by
  rw [matmul_zero_eq_dotGeneral]
  exact StackMember.dotGeneral_plain_apply (m := 512) (n := 64) (k := 256) none x r n e

/-- The exponentials are the weights. -/
theorem pay2_apply (n : Fin 512) (e : Fin 64) : k0_pay2 (F := Ideal) x r (ix2 n e) = wgt (score x r n) e := by
  show Ideal.exp (matmul (F := Ideal) dot_S512x256_S256x64_S512x64_1_0_0_1_n_n none (k0_pay1 x) (shapeCast S256x64 r shapeCasts_S256x64_S256x64) (constant S512x64 .f32 0x00000000#32) (ix2 n e)
    - broadcastTo S512x64 (shapeCast S512x1 (multiReduction .maximumf [1] S512 (matmul (F := Ideal) dot_S512x256_S256x64_S512x64_1_0_0_1_n_n none (k0_pay1 x) (shapeCast S256x64 r shapeCasts_S256x64_S256x64) (constant S512x64 .f32 0x00000000#32)) 0xFF800000#32 reduces_S512x64_S512 (.inl rfl) rfl) shapeCasts_S512_S512x1) broadcasts_S512x1_S512x64 (ix2 n e)) = _
  rw [pay1_eq, shapeCast_self, spread_apply, shapeCast_a_a1_apply, laneMax_apply, scores_apply]
  unfold wgt
  congr 2
  exact congrArg top (funext fun e => scores_apply x r n e)

/-- The sum over the lanes of the weights masked by a word's expert, in a column. -/
theorem masked_apply (p : FVec Ideal S512x64 .f32) (w : IVec S512x64 32) (n : Fin 512) (e : Fin 64) (hw : ∀ k, w (ix2 n k) = BitVec.ofNat 32 e.val) :
    shapeCast S512x1 (multiReduction .add [1] S512 (select (cmpi .eq (iota .tc S512x64 32 [1] iota_S512x64_d1_w32) w) p
      (broadcast S512x64 (Scalar.ofBits (F := Ideal) .f32 0x00000000#32))) 0x00000000#32 reduces_S512x64_S512 (.inl rfl) rfl) shapeCasts_S512_S512x1 (ix2 n 0) = p (ix2 n e) := by
  rw [shapeCast_a_a1_apply, laneSum_apply]
  refine Eq.trans (Finset.sum_congr rfl fun k _ => ?_) (pick (fun k => p (ix2 n k)) _ e rfl _ Ideal.ofBits_zero_f32)
  show Scalar.select (IntOp.cmpi .eq (iota .tc S512x64 32 [1] iota_S512x64_d1_w32 (ix2 n k)) (w (ix2 n k))) _ _ = _
  rw [iota_single_apply, hw k]
  rfl

/-- The two chosen experts' weights, summed. -/
theorem pay5_apply (i j : IVec S512x1 32) (n : Fin 512) (a b : Fin 64) (ha : i (ix2 n 0) = BitVec.ofNat 32 a.val) (hb : j (ix2 n 0) = BitVec.ofNat 32 b.val) :
    k0_pay5 (F := Ideal) x r i j (ix2 n 0) = wgt (score x r n) a + wgt (score x r n) b := by
  rw [← pay2_apply, ← pay2_apply]
  refine congrArg₂ (fun a b : EReal => a + b) (masked_apply _ _ n a fun k => ?_) (masked_apply _ _ n b fun k => ?_)
  · show broadcastTo S512x64 (shapeCast S512x1 i shapeCasts_S512x1_S512x1) broadcasts_S512x1_S512x64 (ix2 n k) = _
    rw [spread_apply, shapeCast_self, ha]
  · show broadcastTo S512x64 (shapeCast S512x1 j shapeCasts_S512x1_S512x1) broadcasts_S512x1_S512x64 (ix2 n k) = _
    rw [spread_apply, shapeCast_self, hb]

/-! ## One expert's gated rows -/

/-- The word of device `d`'s expert `j`. -/
theorem expert_word (d : Dev nD) : ∀ j : Fin 2, Scalar.addi (Scalar.muli (Scalar.remsi (Scalar.divsi (Dev.word d) 1#32) 32#32) 2#32) (BitVec.ofNat 32 j.val) = BitVec.ofNat 32 (2 * d.val + j.val) := by
  revert d
  decide

/-- Two words below 64 are equal as their numbers are. -/
theorem word_eq (a e : Fin 64) : IntOp.cmpi .eq (BitVec.ofNat 32 a.val) (BitVec.ofNat 32 e.val) = if a = e then 1#1 else 0#1 := by
  by_cases h : a = e
  · rw [if_pos h, h]; exact StableHlo.Predicate.cmpi_eq_iff.2 rfl
  · rw [if_neg h]
    refine eq_zero_of_ne_one fun h' => h <| Fin.ext <| ?_
    have := congrArg BitVec.toNat (StableHlo.Predicate.cmpi_eq_iff.1 h')
    simp only [BitVec.toNat_ofNat] at this
    have := a.isLt; have := e.isLt
    omega

/-- A row gated for the expert of word `v`. -/
theorem gated_apply (p : FVec Ideal S512x64 .f32) (i j : IVec S512x1 32) (gs : FVec Ideal S512x1 .f32) (v : BitVec 32)
    (n : Fin 512) (k : Fin 256) (a b e : Fin 64) (hv : v = BitVec.ofNat 32 e.val) (ha : i (ix2 n 0) = BitVec.ofNat 32 a.val) (hb : j (ix2 n 0) = BitVec.ofNat 32 b.val) :
    truncf (F := Ideal) .bf16 (mulf (extf .f32 x bitsLt_bf16_f32) (broadcastTo S512x256
      (select (ori (cmpi .eq i (broadcast S512x1 v)) (cmpi .eq j (broadcast S512x1 v)))
        (divf (shapeCast S512x1 (multiReduction .add [1] S512 (select (cmpi .eq (iota .tc S512x64 32 [1] iota_S512x64_d1_w32) (broadcast S512x64 v)) p
          (broadcast S512x64 (Scalar.ofBits (F := Ideal) .f32 0x00000000#32))) 0x00000000#32 reduces_S512x64_S512 (.inl rfl) rfl) shapeCasts_S512_S512x1) gs)
        (broadcast S512x1 (Scalar.ofBits (F := Ideal) .f32 0x00000000#32))) broadcasts_S512x1_S512x256)) bitsLt_bf16_f32 (ix2 n k)
      = x (ix2 n k) * (if a = e ∨ b = e then Ideal.div (p (ix2 n e)) (gs (ix2 n 0)) else 0) := by
  refine congrArg (fun g : EReal => x (ix2 n k) * g) ?_
  rw [spread_apply, select_apply]
  refine (congrArg₂ (fun (c : BitVec 1) (g : EReal) => Scalar.select c (Ideal.div g (gs (ix2 n 0))) (Scalar.ofBits (F := Ideal) .f32 0x00000000#32))
    (show _ = if a = e ∨ b = e then 1#1 else 0#1 from ?_) (masked_apply p _ n e fun k => hv)).trans ?_
  · show IntOp.cmpi .eq (i (ix2 n 0)) v ||| IntOp.cmpi .eq (j (ix2 n 0)) v = _
    rw [ha, hb, hv, word_eq, word_eq]
    by_cases h : a = e <;> by_cases h' : b = e <;> simp [h, h']
  · by_cases h : a = e ∨ b = e
    · rw [if_pos h, if_pos h]; rfl
    · rw [if_neg h, if_neg h]; exact Ideal.ofBits_zero_f32

/-- Expert `j` of device `d`. -/
def expert (d : Dev nD) (j : Fin 2) : Fin 64 := ⟨2 * d.val + j.val, by have := d.isLt; have := j.isLt; have : nD = 32 := rfl; omega⟩

/-- A row's gate for expert `e`, its chosen experts being `a` and `b`. -/
def gateFor (s : Fin 64 → EReal) (a b e : Fin 64) : EReal := if a = e ∨ b = e then gate s a b e else 0

/-- The two experts' gated rows, side by side. -/
def sideBySide (d : Dev nD) (i j : IVec S512x1 32) : FVec Ideal S512x512 .bf16 :=
  k0_pay6 (F := Ideal) (Scalar.remsi (Scalar.divsi (Dev.word d) 1#32) 32#32) (k0_pay1 x) (k0_pay2 x r) (k0_pay3 (F := Ideal) i) (k0_pay4 (F := Ideal) j)
    (iota .tc S512x64 32 [1] iota_S512x64_d1_w32) (k0_pay5 x r i j) 2#32

theorem sideBySide_left (d : Dev nD) (i j : IVec S512x1 32) (n : Fin 512) (k : Fin 256) (a b : Fin 64)
    (ha : i (ix2 n 0) = BitVec.ofNat 32 a.val) (hb : j (ix2 n 0) = BitVec.ofNat 32 b.val) :
    sideBySide x r d i j (ix2 n (k.castAdd 256)) = x (ix2 n k) * gateFor (score x r n) a b (expert d 0) := by
  refine (concatenate_pair_apply_left (t := S512x512) (s₁ := S512x256) (s₂ := S512x256) 1 _ _ concatenates_S512x256_S512x256_S512x512_d1 _ rfl (ix2 n k) fun c => match c with
    | ⟨0, _⟩ => rfl
    | ⟨1, _⟩ => rfl).trans ?_
  refine (gated_apply (k0_pay1 x) (k0_pay2 x r) _ _ _ _ n k a b (expert d 0) (expert_word d 0) ?_ ?_).trans ?_
  · exact (congrFun (shapeCast_self i _) _).trans ha
  · exact (congrFun (shapeCast_self j _) _).trans hb
  · rw [pay1_eq, pay5_apply x r i j n a b ha hb, pay2_apply]; rfl

theorem sideBySide_right (d : Dev nD) (i j : IVec S512x1 32) (n : Fin 512) (k : Fin 256) (a b : Fin 64)
    (ha : i (ix2 n 0) = BitVec.ofNat 32 a.val) (hb : j (ix2 n 0) = BitVec.ofNat 32 b.val) :
    sideBySide x r d i j (ix2 n (k.natAdd 256)) = x (ix2 n k) * gateFor (score x r n) a b (expert d 1) := by
  refine (concatenate_pair_apply_right (t := S512x512) (s₁ := S512x256) (s₂ := S512x256) 1 _ _ concatenates_S512x256_S512x256_S512x512_d1 _ rfl rfl (ix2 n k)
    (fun c hc => match c, hc with
      | ⟨0, _⟩, _ => rfl
      | ⟨1, _⟩, hc => absurd rfl hc) (Nat.add_comm _ _)).trans ?_
  refine (gated_apply (k0_pay1 x) (k0_pay2 x r) _ _ _ _ n k a b (expert d 1) (expert_word d 1) ?_ ?_).trans ?_
  · exact (congrFun (shapeCast_self i _) _).trans ha
  · exact (congrFun (shapeCast_self j _) _).trans hb
  · rw [pay1_eq, pay5_apply x r i j n a b ha hb, pay2_apply]; rfl

/-! ## The product with the two experts' matrices -/

/-- What a device stages at row `n`, column `h`. -/
theorem stagePay_apply (d : Dev nD) (i j : IVec S512x1 32) (w w' : FVec Ideal S1x256x512 .bf16) (n h : Fin 512) (a b : Fin 64)
    (ha : i (ix2 n 0) = BitVec.ofNat 32 a.val) (hb : j (ix2 n 0) = BitVec.ofNat 32 b.val) :
    stagePay (F := Ideal) d x r i j w w' (ix2 n h)
      = (∑ k : Fin 256, x (ix2 n k) * gateFor (score x r n) a b (expert d 0) * w (ix3 0 k h))
        + ∑ k : Fin 256, x (ix2 n k) * gateFor (score x r n) a b (expert d 1) * w' (ix3 0 k h) := by
  show shapeCast S512x512 (truncf (F := Ideal) .bf16 (matmul dot_S512x512_S512x512_S512x512_1_0_0_1_n_n none (sideBySide x r d i j)
    (concatenate S512x512 0 [⟨S256x512, k0_pay7 w⟩, ⟨S256x512, k0_pay8 w'⟩] concatenates_S256x512_S256x512_S512x512_d0) (constant S512x512 .f32 0x00000000#32)) bitsLt_bf16_f32) shapeCasts_S512x512_S512x512 (ix2 n h) = _
  rw [shapeCast_self, matmul_zero_eq_dotGeneral]
  refine (StackMember.dotGeneral_plain_apply (m := 512) (n := 512) (k := 512) none (sideBySide x r d i j) _ n h).trans ?_
  refine (Fin.sum_univ_add (a := 256) (b := 256) _).trans (congrArg₂ (fun a b : EReal => a + b) ?_ ?_)
  · refine Finset.sum_congr rfl fun k _ => congrArg₂ (fun a b : EReal => a * b) (sideBySide_left x r d i j n k a b ha hb) ?_
    refine (concatenate_pair_apply_left (t := S512x512) (s₁ := S256x512) (s₂ := S256x512) 0 _ _ concatenates_S256x512_S256x512_S512x512_d0 _ rfl (ix2 k h) fun c => match c with
      | ⟨0, _⟩ => rfl
      | ⟨1, _⟩ => rfl).trans ?_
    exact shapeCast_1ab_ab_apply w _ k h
  · refine Finset.sum_congr rfl fun k _ => congrArg₂ (fun a b : EReal => a * b) (sideBySide_right x r d i j n k a b ha hb) ?_
    refine (concatenate_pair_apply_right (t := S512x512) (s₁ := S256x512) (s₂ := S256x512) 0 _ _ concatenates_S256x512_S256x512_S512x512_d0 _ rfl rfl (ix2 k h)
      (fun c hc => match c, hc with
        | ⟨1, _⟩, _ => rfl
        | ⟨0, _⟩, hc => absurd rfl hc) (Nat.add_comm _ _)).trans ?_
    exact shapeCast_1ab_ab_apply w' _ k h

end Cert.Moe

end
-- ==== Proof.KernelValue.lean ====
/-
The kernel's result at an index, at the ideal values: the exchange adds up what the devices stage, which is the sum over
all the experts, and that is the answer.
-/
module

public import proofs.«01_k».proof.Proof.Stage
public import Idealize.ShloMosaic.Lib.Layout

@[expose] public section

noncomputable section

namespace Cert.Moe

open Cert.KernelIdeal Cert.KernelIdeal.Gen
open Idealize.ShloMosaic Idealize.ShloMosaic.TcCoe Idealize.ShloMosaic.ValueIdx
open scoped BigOperators

/-! ## The operands -/

section Operands

variable {F : FTy → Type} [FloatOps F] (m : (ℓ : Loc nD τ sig) → Buf (Elt F) ℓ) (c : Dev nD)

theorem xB_eq : xB m c = m ((c : Thread nD τ).loc main_arg0) := by
  funext y
  show m ((c : Thread nD τ).loc main_arg0) _ = m ((c : Thread nD τ).loc main_arg0) y
  congr 1
  funext a
  match a with
  | 0 => exact Fin.ext (by show 0 + 1 * (y 0 : ℕ) = (y 0 : ℕ); omega)
  | 1 => exact Fin.ext (by show 0 + 1 * (y 1 : ℕ) = (y 1 : ℕ); omega)

theorem rB_eq : rB m c = m ((c : Thread nD τ).loc main_arg1) := by
  funext y
  show m ((c : Thread nD τ).loc main_arg1) _ = m ((c : Thread nD τ).loc main_arg1) y
  congr 1
  funext a
  match a with
  | 0 => exact Fin.ext (by show 0 + 1 * (y 0 : ℕ) = (y 0 : ℕ); omega)
  | 1 => exact Fin.ext (by show 0 + 1 * (y 1 : ℕ) = (y 1 : ℕ); omega)

theorem iB_eq : iB m c = m ((c : Thread nD τ).loc main_arg2) := by
  funext y
  show m ((c : Thread nD τ).loc main_arg2) _ = m ((c : Thread nD τ).loc main_arg2) y
  congr 1
  funext a
  match a with
  | 0 => exact Fin.ext (by show 0 + 1 * (y 0 : ℕ) = (y 0 : ℕ); omega)
  | 1 => exact Fin.ext (by show 0 + 1 * (y 1 : ℕ) = (y 1 : ℕ); omega)

theorem eB_eq : eB m c = m ((c : Thread nD τ).loc main_arg3) := by
  funext y
  show m ((c : Thread nD τ).loc main_arg3) _ = m ((c : Thread nD τ).loc main_arg3) y
  congr 1
  funext a
  match a with
  | 0 => exact Fin.ext (by show 0 + 1 * (y 0 : ℕ) = (y 0 : ℕ); omega)
  | 1 => exact Fin.ext (by show 0 + 1 * (y 1 : ℕ) = (y 1 : ℕ); omega)
  | 2 => exact Fin.ext (by show 0 + 1 * (y 2 : ℕ) = (y 2 : ℕ); omega)

end Operands

/-! ## Parts of the operands at an index -/

theorem col0_apply {β : Type} (I : S512x2.Idx → β) (n : Fin 512) :
    part (Rect.unit (s := S512x2) ![0, 0] S512x1.size inb_S512x2_S512x1_0_0) I (ix2 n 0) = I (ix2 n 0) := by
  unfold part
  congr 1
  funext a
  match a with
  | 0 => exact Fin.ext (by show 0 + 1 * n.val = n.val; omega)
  | 1 => rfl

theorem col1_apply {β : Type} (I : S512x2.Idx → β) (n : Fin 512) :
    part (Rect.unit (s := S512x2) ![0, 1] S512x1.size inb_S512x2_S512x1_0_1) I (ix2 n 0) = I (ix2 n 1) := by
  unfold part
  congr 1
  funext a
  match a with
  | 0 => exact Fin.ext (by show 0 + 1 * n.val = n.val; omega)
  | 1 => rfl

theorem mat0_apply {β : Type} (E : S2x256x512.Idx → β) (k : Fin 256) (h : Fin 512) :
    part (Rect.unit (s := S2x256x512) ![0, 0, 0] S1x256x512.size inb_S2x256x512_S1x256x512_0_0_0) E (ix3 0 k h) = E (ix3 0 k h) := by
  unfold part
  congr 1
  funext a
  match a with
  | 0 => rfl
  | 1 => exact Fin.ext (by show 0 + 1 * k.val = k.val; omega)
  | 2 => exact Fin.ext (by show 0 + 1 * h.val = h.val; omega)

theorem mat1_apply {β : Type} (E : S2x256x512.Idx → β) (k : Fin 256) (h : Fin 512) :
    part (Rect.unit (s := S2x256x512) ![1, 0, 0] S1x256x512.size inb_S2x256x512_S1x256x512_1_0_0) E (ix3 0 k h) = E (ix3 1 k h) := by
  unfold part
  congr 1
  funext a
  match a with
  | 0 => rfl
  | 1 => exact Fin.ext (by show 0 + 1 * k.val = k.val; omega)
  | 2 => exact Fin.ext (by show 0 + 1 * h.val = h.val; omega)

/-- Device `c`'s matrix `j` is the matrix of expert `2c + j`. -/
theorem block_expert {β : Type} (W : (⟨3, ![64, 256, 512]⟩ : Shape).Idx → β) (c : Dev nD) (j : Fin 2) (k : Fin 256) (h : Fin 512) :
    Layout.block ⟨3, ![2, 256, 512]⟩ ⟨3, ![64, 256, 512]⟩ 0 32 c W (by decide) (ix3 j k h) = W (ix3 (expert c j) k h) := by
  rw [Layout.block_apply]
  congr 1
  funext a
  match a with
  | 0 => exact Fin.ext (by show c.val * 2 + j.val = 2 * c.val + j.val; omega)
  | 1 => rfl
  | 2 => rfl

/-! ## Sums over the devices -/

/-- A device and one of its two experts: an expert. -/
def expertEquiv : Dev nD × Fin 2 ≃ Fin 64 where
  toFun p := expert p.1 p.2
  invFun e := (⟨e.val / 2, by have := e.isLt; show _ < 32; omega⟩, ⟨e.val % 2, by omega⟩)
  left_inv p := by
    obtain ⟨c, j⟩ := p
    have := j.isLt
    refine Prod.ext (Fin.ext ?_) (Fin.ext ?_)
    · show (2 * c.val + j.val) / 2 = c.val; omega
    · show (2 * c.val + j.val) % 2 = j.val; omega
  right_inv e := Fin.ext (by show 2 * (e.val / 2) + e.val % 2 = e.val; omega)

/-- The sum over the devices and their experts is the sum over the experts. -/
theorem sum_experts (f : Fin 64 → EReal) : ∑ c : Dev nD, (f (expert c 0) + f (expert c 1)) = ∑ e, f e := by
  rw [← Equiv.sum_comp expertEquiv f, Fintype.sum_prod_type]
  exact Finset.sum_congr rfl fun c _ => (Fin.sum_univ_two fun j => f (expert c j)).symm

/-- One's own and the others' is everyone's. -/
theorem sum_everyone (t : Dev nD) (f : Dev nD → EReal) : f t + ∑ r : Fin 31, f (from' t r) = ∑ c, f c := by
  rw [← Equiv.sum_comp (everyoneFrom t) f, Fintype.sum_option]
  rfl

/-- A sum over the slots. -/
theorem slotSum_apply (v : FVec Ideal S31x16x512 .f32) (q : Fin 16) (h : Fin 512) :
    multiReduction .add [0] S16x512 v 0x00000000#32 reduces_S31x16x512_S16x512 (.inl rfl) rfl (ix2 q h) = ∑ r : Fin 31, v (ix3 r q h) := by
  refine (Ideal.multiReduction_add_single v _ _ _ _ _).trans (Finset.sum_congr rfl fun r _ => congrArg v ?_)
  exact funext fun a => match a with
    | ⟨0, _⟩ => rfl
    | ⟨1, _⟩ => rfl
    | ⟨2, _⟩ => rfl

/-- The rows a device owns, summed. -/
theorem red_apply (m : (ℓ : Loc nD τ sig) → Buf (Elt Ideal) ℓ) (t : Dev nD) (q : Fin 16) (h : Fin 512) :
    red m t (ix2 q h) = ∑ c, stgRow m c t (ix2 q h) := by
  refine Eq.trans ?_ (sum_everyone t fun c => stgRow m c t (ix2 q h))
  show shapeCast S16x512 (truncf (F := Ideal) .bf16 (addf (k0_pay10 (stgRow m t t)) (multiReduction .add [0] S16x512 (extf .f32 (rcv m t) bitsLt_bf16_f32)
    0x00000000#32 reduces_S31x16x512_S16x512 (.inl rfl) rfl)) bitsLt_bf16_f32) shapeCasts_S16x512_S16x512 (ix2 q h) = _
  rw [shapeCast_self]
  refine congrArg (fun s : EReal => stgRow m t t (ix2 q h) + s) ?_
  exact slotSum_apply _ q h

/-- The result at row `n` is what the devices stage there, summed. -/
theorem outB_sum (m : (ℓ : Loc nD τ sig) → Buf (Elt Ideal) ℓ) (n h : Fin 512) : outB m (ix2 n h) = ∑ c, stg m c (ix2 n h) := by
  have hn := n.isLt
  refine (red_apply m ⟨n.val / 16, by show _ < 32; omega⟩ ⟨n.val % 16, by omega⟩ h).trans (Finset.sum_congr rfl fun c _ => ?_)
  unfold stgRow part
  congr 1
  funext a
  match a with
  | 0 => exact Fin.ext ((rowRect_val _ _).1.trans (by show 16 * (n.val / 16) + n.val % 16 = n.val; omega))
  | 1 => exact Fin.ext (rowRect_val _ _).2

/-! ## The result -/

/-- The kernel's result is the answer. -/
theorem outB_answer (m : (ℓ : Loc nD τ sig) → Buf (Elt Ideal) ℓ)
    (X : FVec Ideal S512x256 .bf16) (R : FVec Ideal S256x64 .bf16) (I : IVec S512x2 32) (W : (⟨3, ![64, 256, 512]⟩ : Shape).Idx → EReal)
    (h0 : ∀ c : Dev nD, m ((c : Thread nD τ).loc main_arg0) = X) (h1 : ∀ c : Dev nD, m ((c : Thread nD τ).loc main_arg1) = R)
    (h2 : ∀ c : Dev nD, m ((c : Thread nD τ).loc main_arg2) = I)
    (h3 : ∀ c : Dev nD, m ((c : Thread nD τ).loc main_arg3) = Layout.block ⟨3, ![2, 256, 512]⟩ ⟨3, ![64, 256, 512]⟩ 0 32 c W)
    (hX : ∀ i, Fin' (X i)) (hR : ∀ i, Fin' (R i)) (n h : Fin 512) (a b : Fin 64)
    (ha : I (ix2 n 0) = BitVec.ofNat 32 a.val) (hb : I (ix2 n 1) = BitVec.ofNat 32 b.val) (hab : a ≠ b) :
    outB m (ix2 n h) = answer X R W n h a b := by
  rw [outB_sum, ← sum_adds W hX hR n h hab, ← sum_experts]
  refine Finset.sum_congr rfl fun c _ => ?_
  unfold stg
  rw [xB_eq, rB_eq, iB_eq, eB_eq, h0, h1, h2, h3]
  refine (stagePay_apply X R c _ _ _ _ n h a b ((col0_apply I n).trans ha) ((col1_apply I n).trans hb)).trans ?_
  refine congrArg₂ (fun a b : EReal => a + b) (Finset.sum_congr rfl fun k _ => ?_) (Finset.sum_congr rfl fun k _ => ?_)
  · exact congrArg (fun w : EReal => X (ix2 n k) * gateFor (score X R n) a b (expert c 0) * w) ((mat0_apply _ k h).trans (block_expert W c 0 k h))
  · exact congrArg (fun w : EReal => X (ix2 n k) * gateFor (score X R n) a b (expert c 1) * w) ((mat1_apply _ k h).trans (block_expert W c 1 k h))

end Cert.Moe

end
-- ==== Proof.RefStages.lean ====
/-
The reference's operations read at an index, at the ideal values: a gather at words below the operand's extents, the
product over the rows, and the wrapped words.
-/
module

public import proofs.«01_k».proof.Proof.Gen.ReferenceIdeal.Run
public import proofs.«01_k».proof.Proof.Answer
public import Idealize.ShloMosaic.Lib.Pipeline.Value
public import Idealize.ShloMosaic.Lib.ValueLayout
public import Idealize.ShloMosaic.Lib.ValueLayoutCasts
public import Idealize.ShloMosaic.Lib.IdealHost
public import Idealize.ShloMosaic.Lib.StableHlo.Predicate
public import Idealize.ShloMosaic.Lib.KernelVsHost
public import Idealize.ShloMosaic.Lib.StackMember

@[expose] public section

noncomputable section

namespace Cert.Moe.Ref

open Cert.ReferenceIdeal Cert.ReferenceIdeal.Gen
open Idealize.ShloMosaic Idealize.ShloMosaic.ValueIdx
open scoped BigOperators

/-- A word below an extent within the positive words is not clamped. -/
theorem clamp (e N : ℕ) (he : e < N) (hN : N ≤ 512) : min (BitVec.ofNat 32 e).toInt.toNat (N - 1) = e := by
  rw [StableHlo.Predicate.toInt_eq_toNat_of_lt (by simp only [BitVec.toNat_ofNat]; omega), BitVec.toNat_ofNat]
  omega

/-- The gather of one entry a row. -/
theorem entry_apply {α : Type} (p : S512x64.Idx → α) (idx : IVec S512x2 32) (n : Fin 512) (e : Fin 64)
    (h0 : idx (ix2 n 0) = BitVec.ofNat 32 n.val) (h1 : idx (ix2 n 1) = BitVec.ofNat 32 e.val) :
    Host.gather gather_S512x64_S512x2_S512_n_01_n_n_01_1_11 p idx (ix1 n) = p (ix2 n e) := by
  have s0 : gather_S512x64_S512x2_S512_n_01_n_n_01_1_11.start (ix1 n) idx (0 : Fin 2) = min (idx (ix2 n 0)).toInt.toNat (512 - 1) := by
    unfold GatherDims.start
    rw [dif_pos (show (0 : Fin 2) ∈ gather_S512x64_S512x2_S512_n_01_n_n_01_1_11.startIndexMap from List.mem_cons_self)]
    congr 4
    funext b; refine Fin.ext ?_
    match b with
    | ⟨0, _⟩ => rfl
    | ⟨1, _⟩ => rfl
  have s1 : gather_S512x64_S512x2_S512_n_01_n_n_01_1_11.start (ix1 n) idx (1 : Fin 2) = min (idx (ix2 n 1)).toInt.toNat (64 - 1) := by
    unfold GatherDims.start
    rw [dif_pos (show (1 : Fin 2) ∈ gather_S512x64_S512x2_S512_n_01_n_n_01_1_11.startIndexMap from List.mem_cons_of_mem _ List.mem_cons_self)]
    congr 4
    funext b; refine Fin.ext ?_
    match b with
    | ⟨0, _⟩ => rfl
    | ⟨1, _⟩ => rfl
  unfold Host.gather
  congr 1
  funext a
  refine Fin.ext ?_
  show GatherDims.start _ _ _ a + GatherDims.batchCoord _ _ a + GatherDims.offCoord _ _ a = _
  have h01 : a = (0 : Fin 2) ∨ a = (1 : Fin 2) := by
    match a with
    | ⟨0, _⟩ => exact .inl rfl
    | ⟨1, _⟩ => exact .inr rfl
  rcases h01 with rfl | rfl
  · rw [GatherDims.batchCoord_eq_zero _ _ _ List.not_mem_nil,
      GatherDims.offCoord_eq_zero _ _ _ (fun h => ((GatherDims.mem_sKept _ _).mp h).1 List.mem_cons_self), s0, h0, clamp n.val 512 n.isLt le_rfl]
    rfl
  · rw [GatherDims.batchCoord_eq_zero _ _ _ List.not_mem_nil,
      GatherDims.offCoord_eq_zero _ _ _ (fun h => ((GatherDims.mem_sKept _ _).mp h).1 (List.mem_cons_of_mem _ List.mem_cons_self)), s1, h1, clamp e.val 64 e.isLt (by decide)]
    rfl

/-- The gather of one matrix a row. -/
theorem matrix_apply {α : Type} (w : S64x256x512.Idx → α) (idx : IVec S512x1 32) (n : Fin 512) (k : Fin 256) (h : Fin 512) (e : Fin 64)
    (h0 : idx (ix2 n 0) = BitVec.ofNat 32 e.val) :
    Host.gather gather_S64x256x512_S512x1_S512x256x512_12_0_n_n_0_1_1256512 w idx (ix3 n k h) = w (ix3 e k h) := by
  have s0 : gather_S64x256x512_S512x1_S512x256x512_12_0_n_n_0_1_1256512.start (ix3 n k h) idx (0 : Fin 3) = min (idx (ix2 n 0)).toInt.toNat (64 - 1) := by
    unfold GatherDims.start
    rw [dif_pos (show (0 : Fin 3) ∈ gather_S64x256x512_S512x1_S512x256x512_12_0_n_n_0_1_1256512.startIndexMap from List.mem_cons_self)]
    congr 4
    funext b; refine Fin.ext ?_
    match b with
    | ⟨0, _⟩ => rfl
    | ⟨1, _⟩ => rfl
  have s1 : gather_S64x256x512_S512x1_S512x256x512_12_0_n_n_0_1_1256512.start (ix3 n k h) idx (1 : Fin 3) = 0 := rfl
  have s2 : gather_S64x256x512_S512x1_S512x256x512_12_0_n_n_0_1_1256512.start (ix3 n k h) idx (2 : Fin 3) = 0 := rfl
  have o1 : gather_S64x256x512_S512x1_S512x256x512_12_0_n_n_0_1_1256512.offCoord (ix3 n k h) (1 : Fin 3) = k.val := rfl
  have o2 : gather_S64x256x512_S512x1_S512x256x512_12_0_n_n_0_1_1256512.offCoord (ix3 n k h) (2 : Fin 3) = h.val := rfl
  unfold Host.gather
  congr 1
  funext a
  refine Fin.ext ?_
  show GatherDims.start _ _ _ a + GatherDims.batchCoord _ _ a + GatherDims.offCoord _ _ a = _
  have h012 : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rw [GatherDims.batchCoord_eq_zero _ _ _ List.not_mem_nil]
  rcases h012 with rfl | rfl | rfl
  · rw [GatherDims.offCoord_eq_zero _ _ _ (fun h => ((GatherDims.mem_sKept _ _).mp h).1 List.mem_cons_self), s0, h0, clamp e.val 64 e.isLt (by decide)]
    rfl
  · rw [s1, o1, Nat.zero_add]
  · rw [s2, o2, Nat.zero_add]

/-- The product of each row with its own matrix. -/
theorem rowwise_apply (x : FVec Ideal S512x256 .f32) (w : FVec Ideal S512x256x512 .f32) (n h : Fin 512) :
    Host.dotGeneral dot_S512x256_S512x256x512_S512x512_1_1_n_2_0_0 none x w (ix2 n h) = ∑ k : Fin 256, x (ix2 n k) * w (ix3 n k h) := by
  show FloatOps.dotGeneral _ _ _ x w (ix2 n h) = _
  rw [Ideal.dotGeneral_apply, ← Equiv.sum_comp (contrEquiv1 dot_S512x256_S512x256x512_S512x512_1_1_n_2_0_0 256 rfl rfl).symm]
  refine Finset.sum_congr rfl fun c _ => ?_
  have c2 := contrEquiv1_symm_val dot_S512x256_S512x256x512_S512x512_1_1_n_2_0_0 256 rfl rfl c
  have l2 : dot_S512x256_S512x256x512_S512x512_1_1_n_2_0_0.lhsIdx (ix2 n h) ((contrEquiv1 _ 256 rfl rfl).symm c) = ix2 n c := by
    funext ax; apply Fin.ext
    match ax with
    | ⟨0, _⟩ => rfl
    | ⟨1, _⟩ => exact c2
  have r2 : dot_S512x256_S512x256x512_S512x512_1_1_n_2_0_0.rhsIdx (ix2 n h) ((contrEquiv1 _ 256 rfl rfl).symm c) = ix3 n c h := by
    funext ax; apply Fin.ext
    match ax with
    | ⟨0, _⟩ => rfl
    | ⟨1, _⟩ => exact c2
    | ⟨2, _⟩ => rfl
  rw [l2, r2]

/-- A vector as a column. -/
theorem col_apply {α : Type} (v : S512.Idx → α) (n : Fin 512) (u : Fin 1) : broadcastInDim S512x1 ![0] bcast_S512_S512x1_0 v (ix2 n u) = v (ix1 n) :=
  broadcastInDim_apply _ _ v _ _ fun a => match a with
    | ⟨0, _⟩ => rfl

/-- A vector spread over the lanes. -/
theorem lanes_apply {α : Type} (v : S512.Idx → α) (n : Fin 512) (e : Fin 64) :
    broadcastInDim S512x64 ![0, 1] bcast_S512x1_S512x64_0_1 (broadcastInDim S512x1 ![0] bcast_S512_S512x1_0 v) (ix2 n e) = v (ix1 n) :=
  (broadcastInDim_apply _ _ _ _ (ix2 n 0) fun a => match a with
    | ⟨0, _⟩ => rfl
    | ⟨1, _⟩ => rfl).trans (col_apply v n 0)

/-- A vector spread over the columns. -/
theorem columns_apply {α : Type} (v : S512.Idx → α) (n h : Fin 512) :
    broadcastInDim S512x512 ![0, 1] bcast_S512x1_S512x512_0_1 (broadcastInDim S512x1 ![0] bcast_S512_S512x1_0 v) (ix2 n h) = v (ix1 n) :=
  (broadcastInDim_apply _ _ _ _ (ix2 n 0) fun a => match a with
    | ⟨0, _⟩ => rfl
    | ⟨1, _⟩ => rfl).trans (col_apply v n 0)

/-! ## Words -/

/-- A word, wrapped if it is negative. -/
def wrap (e : IVec S512 32) (N : BitVec 32) : IVec S512 32 :=
  select (cmpi .slt e (broadcastInDim S512 ![] bcast_S_S512 (constantI S_ 32 0#32))) (addi e (broadcastInDim S512 ![] bcast_S_S512 (constantI S_ 32 N))) e

/-- A small word is not negative: it stays. -/
theorem wrap_apply (e : IVec S512 32) (N : BitVec 32) (n : Fin 512) (a : ℕ) (ha : a < 512) (he : e (ix1 n) = BitVec.ofNat 32 a) :
    wrap e N (ix1 n) = BitVec.ofNat 32 a := by
  show Scalar.select (IntOp.cmpi .slt (e (ix1 n)) 0#32) _ (e (ix1 n)) = _
  rw [he, eq_zero_of_ne_one (b := IntOp.cmpi .slt (BitVec.ofNat 32 a) 0#32), select_zero]
  intro h
  have := (StableHlo.Predicate.slt_iff_toNat (by simp only [BitVec.toNat_ofNat]; omega) (by decide)).1 h
  simp at this

/-- The numbers of the rows. -/
def rows : IVec S512 32 := wrap (iotaInDim S512 32 0) 512#32

theorem rows_apply (n : Fin 512) : rows (ix1 n) = BitVec.ofNat 32 n.val := wrap_apply _ _ n n.val n.isLt rfl

/-- The two columns of expert numbers. -/
def first (I : IVec S512x2 32) : IVec S512 32 := shapeCast S512 (extractStridedSlice S512x1 ![0, 0] I slices_S512x2_S512x1_0_0) shapeCasts_S512x1_S512
def second (I : IVec S512x2 32) : IVec S512 32 := shapeCast S512 (extractStridedSlice S512x1 ![0, 1] I slices_S512x2_S512x1_0_1) shapeCasts_S512x1_S512

theorem uncol_apply {α : Type} (v : S512x1.Idx → α) (n : Fin 512) : shapeCast S512 v shapeCasts_S512x1_S512 (ix1 n) = v (ix2 n 0) :=
  shapeCast_apply v _ _ _ (by
    rw [Shape.rowMajor_val_two, Shape.rowMajor_val_one]
    show n.val * 1 + 0 = n.val
    omega)

theorem first_apply (I : IVec S512x2 32) (n : Fin 512) : first I (ix1 n) = I (ix2 n 0) :=
  (uncol_apply _ n).trans (slice2_axis1_apply 0 I _ n 0 0 rfl)

theorem second_apply (I : IVec S512x2 32) (n : Fin 512) : second I (ix1 n) = I (ix2 n 1) :=
  (uncol_apply _ n).trans (slice2_axis1_apply 1 I _ n 0 1 rfl)

/-- The row numbers beside the wrapped expert numbers. -/
def pairs (e : IVec S512 32) : IVec S512x2 32 :=
  concatenate S512x2 1 [⟨S512x1, broadcastInDim S512x1 ![0] bcast_S512_S512x1_0 rows⟩, ⟨S512x1, broadcastInDim S512x1 ![0] bcast_S512_S512x1_0 (wrap e 64#32)⟩] concatenates_S512x1_S512x1_S512x2_d1

theorem pairs_apply0 (e : IVec S512 32) (n : Fin 512) : pairs e (ix2 n 0) = BitVec.ofNat 32 n.val :=
  (concatenate_pair_apply_left (t := S512x2) (s₁ := S512x1) (s₂ := S512x1) 1 _ _ concatenates_S512x1_S512x1_S512x2_d1 _ rfl (ix2 n 0) fun c => match c with
    | ⟨0, _⟩ => rfl
    | ⟨1, _⟩ => rfl).trans ((col_apply _ n 0).trans (rows_apply n))

theorem pairs_apply1 (e : IVec S512 32) (n : Fin 512) (a : Fin 64) (he : e (ix1 n) = BitVec.ofNat 32 a.val) : pairs e (ix2 n 1) = BitVec.ofNat 32 a.val :=
  (concatenate_pair_apply_right (t := S512x2) (s₁ := S512x1) (s₂ := S512x1) 1 _ _ concatenates_S512x1_S512x1_S512x2_d1 _ rfl rfl (ix2 n 0)
    (fun c hc => match c, hc with
      | ⟨0, _⟩, _ => rfl
      | ⟨1, _⟩, hc => absurd rfl hc) rfl).trans
    ((col_apply _ n 0).trans (wrap_apply e 64#32 n a.val (Nat.lt_trans a.isLt (by decide)) he))

end Cert.Moe.Ref

end
-- ==== Proof.RefValue.lean ====
/-
The reference's result at an index, at the ideal values, is the answer.
-/
module

public import proofs.«01_k».proof.Proof.RefStages

@[expose] public section

noncomputable section

namespace Cert.Moe.Ref

open Cert.ReferenceIdeal Cert.ReferenceIdeal.Gen
open Idealize.ShloMosaic Idealize.ShloMosaic.ValueIdx
open scoped BigOperators

variable (X : FVec Ideal S512x256 .bf16) (R : FVec Ideal S256x64 .bf16) (I : IVec S512x2 32) (W : FVec Ideal S64x256x512 .bf16)

/-- The scores. -/
def scores : FVec Ideal S512x64 .f32 :=
  Host.dotGeneral dot_S512x256_S256x64_S512x64_1_0_0_1_n_n none (extf .f32 X bitsLt_bf16_f32) (extf .f32 R bitsLt_bf16_f32)

/-- The weights. -/
def weights : FVec Ideal S512x64 .f32 :=
  Host.exp (subf (scores X R) (broadcastInDim S512x64 ![0, 1] bcast_S512x1_S512x64_0_1 (broadcastInDim S512x1 ![0] bcast_S512_S512x1_0
    (Host.reduce FloatOps.maximumf (scores X R) (constant S_ .f32 0xFF800000#32) reducesTo_S512x64_S512_d1 h_S_))))

/-- The weights divided by their sum. -/
def probs : FVec Ideal S512x64 .f32 :=
  Host.divf (weights X R) (broadcastInDim S512x64 ![0, 1] bcast_S512x1_S512x64_0_1 (broadcastInDim S512x1 ![0] bcast_S512_S512x1_0
    (Host.reduceAdd (weights X R) (constant S_ .f32 0x00000000#32) reducesTo_S512x64_S512_d1 h_S_)))

/-- A row's probability of the expert `e` names. -/
def prob (e : IVec S512 32) : FVec Ideal S512 .f32 := Host.gather gather_S512x64_S512x2_S512_n_01_n_n_01_1_11 (probs X R) (pairs e)

/-- A row through the expert `e` names. -/
def row (e : IVec S512 32) : FVec Ideal S512x512 .f32 :=
  Host.dotGeneral dot_S512x256_S512x256x512_S512x512_1_1_n_2_0_0 none (extf .f32 X bitsLt_bf16_f32)
    (Host.gather gather_S64x256x512_S512x1_S512x256x512_12_0_n_n_0_1_1256512 (extf .f32 W bitsLt_bf16_f32) (broadcastInDim S512x1 ![0] bcast_S512_S512x1_0 (wrap e 64#32)))

/-- A vector over the columns. -/
def spread (v : FVec Ideal S512 .f32) : FVec Ideal S512x512 .f32 :=
  broadcastInDim S512x512 ![0, 1] bcast_S512x1_S512x512_0_1 (broadcastInDim S512x1 ![0] bcast_S512_S512x1_0 v)

/-- The result. -/
def result : FVec Ideal S512x512 .f32 :=
  addf (mulf (spread (Host.divf (prob X R (first I)) (addf (prob X R (first I)) (prob X R (second I))))) (row X W (first I)))
    (mulf (spread (Host.divf (prob X R (second I)) (addf (prob X R (first I)) (prob X R (second I))))) (row X W (second I)))

set_option maxRecDepth 8192 in
theorem res_eq (m : (ℓ : Loc nD τ sig) → Buf (Elt Ideal) ℓ) (c : Dev nD) :
    Cert.ReferenceIdeal.Value.res_main_v71 m c
      = result (m ((c.tc : Thread nD τ).loc main_arg0)) (m ((c.tc : Thread nD τ).loc main_arg1)) (m ((c.tc : Thread nD τ).loc main_arg2)) (m ((c.tc : Thread nD τ).loc main_arg3)) := rfl

/-! ## At an index -/

theorem scores_apply (n : Fin 512) (e : Fin 64) : scores X R (ix2 n e) = score X R n e :=
  StackMember.dotGeneral_plain_apply (m := 512) (n := 64) (k := 256) none X R n e

theorem neg_inf : (FloatOps.ofBits .f32 0xFF800000#32 : Ideal .f32) = (⊥ : EReal) := by
  show Ideal.ofBits .f32 0xFF800000#32 = ⊥
  simp [Ideal.ofBits, Ideal.ieee]

theorem reduces : S512x64.Reduces [1] S512 := by decide

theorem rowMax_apply (v : FVec Ideal S512x64 .f32) (n : Fin 512) :
    Host.reduce FloatOps.maximumf v (constant S_ .f32 0xFF800000#32) reducesTo_S512x64_S512_d1 h_S_ (ix1 n) = top fun e => v (ix2 n e) := by
  refine (congrFun (hostReduce_maximumf_eq_multiReduction v 0xFF800000#32 reducesTo_S512x64_S512_d1 h_S_ reduces (.inl rfl) rfl) (ix1 n)).trans ?_
  refine (Ideal.multiReduction_maximumf_single v _ _ _ _ _).trans ?_
  rw [neg_inf]
  refine Finset.fold_congr fun e _ => congrArg v ?_
  exact funext fun a => match a with
    | ⟨0, _⟩ => rfl
    | ⟨1, _⟩ => rfl

theorem rowSum_apply (v : FVec Ideal S512x64 .f32) (n : Fin 512) :
    Host.reduceAdd v (constant S_ .f32 0x00000000#32) reducesTo_S512x64_S512_d1 h_S_ (ix1 n) = ∑ e : Fin 64, v (ix2 n e) := by
  refine (Ideal.hostReduceAdd_single reducesTo_S512x64_S512_d1 reduces v _ (ix1 n)).trans ?_
  refine (congrArg₂ (fun a b : EReal => a + b) Ideal.ofBits_zero_f32 (Finset.sum_congr rfl fun e _ => congrArg v ?_)).trans (zero_add _)
  exact funext fun a => match a with
    | ⟨0, _⟩ => rfl
    | ⟨1, _⟩ => rfl

theorem weights_apply (n : Fin 512) (e : Fin 64) : weights X R (ix2 n e) = wgt (score X R n) e := by
  show Ideal.exp (scores X R (ix2 n e) - broadcastInDim S512x64 ![0, 1] bcast_S512x1_S512x64_0_1 (broadcastInDim S512x1 ![0] bcast_S512_S512x1_0
    (Host.reduce FloatOps.maximumf (scores X R) (constant S_ .f32 0xFF800000#32) reducesTo_S512x64_S512_d1 h_S_)) (ix2 n e)) = _
  rw [lanes_apply, rowMax_apply, scores_apply]
  unfold wgt
  congr 2
  exact congrArg top (funext fun e => scores_apply X R n e)

theorem probs_apply (n : Fin 512) (e : Fin 64) : probs X R (ix2 n e) = Ideal.div (wgt (score X R n) e) (∑ i, wgt (score X R n) i) := by
  show Ideal.div (weights X R (ix2 n e)) (broadcastInDim S512x64 ![0, 1] bcast_S512x1_S512x64_0_1 (broadcastInDim S512x1 ![0] bcast_S512_S512x1_0
    (Host.reduceAdd (weights X R) (constant S_ .f32 0x00000000#32) reducesTo_S512x64_S512_d1 h_S_)) (ix2 n e)) = _
  rw [lanes_apply, rowSum_apply, weights_apply]
  congr 1
  exact Finset.sum_congr rfl fun i _ => weights_apply X R n i

theorem prob_apply (e : IVec S512 32) (n : Fin 512) (a : Fin 64) (he : e (ix1 n) = BitVec.ofNat 32 a.val) :
    prob X R e (ix1 n) = Ideal.div (wgt (score X R n) a) (∑ i, wgt (score X R n) i) :=
  (entry_apply _ _ n a (pairs_apply0 e n) (pairs_apply1 e n a he)).trans (probs_apply X R n a)

theorem row_apply (e : IVec S512 32) (n h : Fin 512) (a : Fin 64) (he : e (ix1 n) = BitVec.ofNat 32 a.val) :
    row X W e (ix2 n h) = through X W n h a :=
  (rowwise_apply _ _ n h).trans (Finset.sum_congr rfl fun k _ => congrArg (fun w : EReal => X (ix2 n k) * w)
    (matrix_apply _ _ n k h a ((col_apply _ n 0).trans (wrap_apply e 64#32 n a.val (Nat.lt_trans a.isLt (by decide)) he))))

theorem share_apply (u v w : FVec Ideal S512 .f32) (n h : Fin 512) :
    spread (Host.divf u (addf v w)) (ix2 n h) = Ideal.div (u (ix1 n)) (v (ix1 n) + w (ix1 n)) := columns_apply _ n h

theorem combine_apply (a b c d : FVec Ideal S512x512 .f32) (i : S512x512.Idx) :
    addf (mulf a b) (mulf c d) i = (a i * b i + c i * d i : EReal) := rfl

/-- The reference's result is the answer. -/
theorem result_answer (hX : ∀ i, Fin' (X i)) (hR : ∀ i, Fin' (R i)) (n h : Fin 512) (a b : Fin 64)
    (ha : I (ix2 n 0) = BitVec.ofNat 32 a.val) (hb : I (ix2 n 1) = BitVec.ofNat 32 b.val) :
    result X R I W (ix2 n h) = answer X R W n h a b := by
  have hs := fin_score hX hR n
  have ha' := (first_apply I n).trans ha
  have hb' := (second_apply I n).trans hb
  unfold result answer
  rw [combine_apply, share_apply, share_apply, row_apply X W _ n h a ha', row_apply X W _ n h b hb', prob_apply X R _ n a ha', prob_apply X R _ n b hb',
    gate_normalized hs a b a, gate_normalized hs a b b]

end Cert.Moe.Ref

end
-- ==== Proof.Pre.lean ====
/-
What the precondition says at an index: the two expert numbers of every row are two different numbers below 64, and the
tokens and the router's weights are finite.
-/
module

public import proofs.«01_k».proof.Pre_finite_two_experts_KernelIdeal
public import proofs.«01_k».proof.Pre_finite_two_experts_ReferenceIdeal
public import proofs.«01_k».proof.Proof.Answer
public import Idealize.ShloMosaic.Lib.Pipeline.Value
public import Idealize.ShloMosaic.Lib.ValueLayout
public import Idealize.ShloMosaic.Lib.IdealHost
public import Idealize.ShloMosaic.Lib.StableHlo.Predicate

@[expose] public section

noncomputable section

namespace Cert.Moe.Pre

open Idealize.ShloMosaic Idealize.ShloMosaic.ValueIdx

theorem factsKernelIdeal : Cert.Pre_finite_two_experts_KernelIdeal.Facts where
  slices_S512x2_S512x1_0_0 := by decide
  shapeCasts_S512x1_S512 := by decide
  slices_S512x2_S512x1_0_1 := by decide
  bcast_S_S512 := by decide
  bcast_S_S512x256 := by decide
  bcast_S_S256x64 := by decide
  bcast_S512_S512x1x1_0 := by decide
  bcast_S512x256_S512x256x1_0_1 := by decide
  bcast_S512x1x1_S512x256x1_0_1_2 := by decide
  bcast_S256x64_S1x256x64_1_2 := by decide
  bcast_S512x256x1_S512x256x64_0_1_2 := by decide
  bcast_S1x256x64_S512x256x64_0_1_2 := by decide

theorem factsReferenceIdeal : Cert.Pre_finite_two_experts_ReferenceIdeal.Facts where
  slices_S512x2_S512x1_0_0 := by decide
  shapeCasts_S512x1_S512 := by decide
  slices_S512x2_S512x1_0_1 := by decide
  bcast_S_S512 := by decide
  bcast_S_S512x256 := by decide
  bcast_S_S256x64 := by decide
  bcast_S512_S512x1x1_0 := by decide
  bcast_S512x256_S512x256x1_0_1 := by decide
  bcast_S512x1x1_S512x256x1_0_1_2 := by decide
  bcast_S256x64_S1x256x64_1_2 := by decide
  bcast_S512x256x1_S512x256x64_0_1_2 := by decide
  bcast_S1x256x64_S512x256x64_0_1_2 := by decide

open Cert.Pre_finite_two_experts_KernelIdeal Cert.Pre_finite_two_experts_KernelIdeal.Facts

/-- The bit that an absolute value is below infinity says the value is finite. -/
theorem finite_of_bit (x : Ideal .bf16) (h : FloatOps.cmpf (F := Ideal) .olt (FloatOps.hostAbsf x) (FloatOps.ofBits (F := Ideal) .bf16 0x7F80#16) = 1#1) : Fin' x := by
  have htop : Ideal.ofBits .bf16 0x7F80#16 = ⊤ := by simp [Ideal.ofBits, Ideal.ieee]
  have h' : Ideal.cmp .olt (max (x : EReal) (-(x : EReal))) (Ideal.ofBits .bf16 0x7F80#16) = 1#1 := h
  rw [htop] at h'
  have h2 : max (x : EReal) (-(x : EReal)) < ⊤ := by
    by_contra hn
    simp [Ideal.cmp, hn] at h'
  obtain ⟨h3, h4⟩ := max_lt_iff.1 h2
  refine ⟨EReal.toReal x, (EReal.coe_toReal h3.ne fun hb => ?_).symm⟩
  rw [hb] at h4
  simp at h4

theorem and_one {a b : BitVec 1} (h : a &&& b = 1#1) : a = 1#1 ∧ b = 1#1 := by
  revert a b; decide

/-- A word within the two signed bounds is a number below 64. -/
theorem word_of_bits {v : BitVec 32} (h0 : IntOp.cmpi .sge v 0#32 = 1#1) (h1 : IntOp.cmpi .slt v 64#32 = 1#1) :
    ∃ a : Fin 64, v = BitVec.ofNat 32 a.val := by
  have g0 : 0 ≤ v.toInt := by
    simp only [IntOp.cmpi, StableHlo.Predicate.ofBool_eq_one_iff, BitVec.sle_iff_toInt_le] at h0
    simpa using h0
  have g1 : v.toInt < 64 := by
    simp only [IntOp.cmpi, StableHlo.Predicate.ofBool_eq_one_iff, BitVec.slt_iff_toInt_lt] at h1
    simpa using h1
  have hlt : v.toNat < 64 := by
    rw [BitVec.toInt_eq_toNat_cond] at g0 g1
    have := v.isLt
    split at g0 <;> split at g1 <;> omega
  exact ⟨⟨v.toNat, hlt⟩, BitVec.eq_of_toNat_eq (by simp only [BitVec.toNat_ofNat]; omega)⟩

variable [Cert.Pre_finite_two_experts_KernelIdeal.Facts]

/-- The bit of a row's expert numbers. -/
def named (I : IVec S512x2 32) : IVec S512 1 :=
  let e0 : IVec S512 32 := shapeCast S512 (extractStridedSlice S512x1 ![0, 0] I slices_S512x2_S512x1_0_0) shapeCasts_S512x1_S512
  let e1 : IVec S512 32 := shapeCast S512 (extractStridedSlice S512x1 ![0, 1] I slices_S512x2_S512x1_0_1) shapeCasts_S512x1_S512
  let lo : IVec S512 32 := broadcastInDim S512 ![] bcast_S_S512 (constantI S_ 32 0#32)
  let hi : IVec S512 32 := broadcastInDim S512 ![] bcast_S_S512 (constantI S_ 32 64#32)
  andi (andi (andi (andi (cmpi .sge e0 lo) (cmpi .slt e0 hi)) (cmpi .sge e1 lo)) (cmpi .slt e1 hi)) (cmpi .ne e0 e1)

/-- The bits that the tokens are finite, and the router's weights. -/
def finX (X : FVec Ideal S512x256 .bf16) : IVec S512x256 1 := cmpf .olt (Host.absf X) (broadcastInDim S512x256 ![] bcast_S_S512x256 (constant S_ .bf16 0x7F80#16))
def finR (R : FVec Ideal S256x64 .bf16) : IVec S256x64 1 := cmpf .olt (Host.absf R) (broadcastInDim S256x64 ![] bcast_S_S256x64 (constant S_ .bf16 0x7F80#16))

/-- The precondition's bit at an index is the conjunction of the three. -/
theorem fn_apply (X : FVec Ideal S512x256 .bf16) (R : FVec Ideal S256x64 .bf16) (I : IVec S512x2 32) (W : FVec Ideal S2x256x512 .bf16)
    (n : Fin 512) (k : Fin 256) (e : Fin 64) :
    fn (F := Ideal) X R I W (ix3 n k e) = (named I (ix1 n) &&& finX X (ix2 n k)) &&& finR R (ix2 k e) := by
  show (broadcastInDim S512x256x64 ![0, 1, 2] bcast_S512x256x1_S512x256x64_0_1_2 (andi
      (broadcastInDim S512x256x1 ![0, 1, 2] bcast_S512x1x1_S512x256x1_0_1_2 (broadcastInDim S512x1x1 ![0] bcast_S512_S512x1x1_0 (named I)))
      (broadcastInDim S512x256x1 ![0, 1] bcast_S512x256_S512x256x1_0_1 (finX X))) (ix3 n k e))
    &&& (broadcastInDim S512x256x64 ![0, 1, 2] bcast_S1x256x64_S512x256x64_0_1_2 (broadcastInDim S1x256x64 ![1, 2] bcast_S256x64_S1x256x64_1_2 (finR R)) (ix3 n k e)) = _
  refine congrArg₂ (fun a b : BitVec 1 => a &&& b) ?_ ?_
  · refine (broadcastInDim_apply _ _ _ _ (ix3 n k (0 : Fin 1)) fun a => match a with
      | ⟨0, _⟩ => rfl
      | ⟨1, _⟩ => rfl
      | ⟨2, _⟩ => rfl).trans ?_
    refine congrArg₂ (fun a b : BitVec 1 => a &&& b) ?_ ?_
    · refine (broadcastInDim_apply _ _ _ _ (ix3 n (0 : Fin 1) (0 : Fin 1)) fun a => match a with
        | ⟨0, _⟩ => rfl
        | ⟨1, _⟩ => rfl
        | ⟨2, _⟩ => rfl).trans ?_
      exact broadcastInDim_apply _ _ _ _ (ix1 n) fun a => match a with
        | ⟨0, _⟩ => rfl
    · exact broadcastInDim_apply _ _ _ _ (ix2 n k) fun a => match a with
        | ⟨0, _⟩ => rfl
        | ⟨1, _⟩ => rfl
  · refine (broadcastInDim_apply _ _ _ _ (ix3 (0 : Fin 1) k e) fun a => match a with
      | ⟨0, _⟩ => rfl
      | ⟨1, _⟩ => rfl
      | ⟨2, _⟩ => rfl).trans ?_
    exact broadcastInDim_apply _ _ _ _ (ix2 k e) fun a => match a with
      | ⟨0, _⟩ => rfl
      | ⟨1, _⟩ => rfl

theorem column {α : Type} (v : S512x1.Idx → α) (n : Fin 512) : shapeCast S512 v shapeCasts_S512x1_S512 (ix1 n) = v (ix2 n 0) :=
  shapeCast_apply v _ _ _ (by
    rw [Shape.rowMajor_val_two, Shape.rowMajor_val_one]
    show n.val * 1 + 0 = n.val
    omega)

/-- A row whose bit is set names two different experts. -/
theorem named_apply (I : IVec S512x2 32) (n : Fin 512) (h : named I (ix1 n) = 1#1) :
    ∃ a b : Fin 64, I (ix2 n 0) = BitVec.ofNat 32 a.val ∧ I (ix2 n 1) = BitVec.ofNat 32 b.val ∧ a ≠ b := by
  have e0 : shapeCast S512 (extractStridedSlice S512x1 ![0, 0] I slices_S512x2_S512x1_0_0) shapeCasts_S512x1_S512 (ix1 n) = I (ix2 n 0) :=
    (column _ n).trans (slice2_axis1_apply 0 I _ n 0 0 rfl)
  have e1 : shapeCast S512 (extractStridedSlice S512x1 ![0, 1] I slices_S512x2_S512x1_0_1) shapeCasts_S512x1_S512 (ix1 n) = I (ix2 n 1) :=
    (column _ n).trans (slice2_axis1_apply 1 I _ n 0 1 rfl)
  obtain ⟨h, hne⟩ := and_one h
  obtain ⟨h, h3⟩ := and_one h
  obtain ⟨h, h2⟩ := and_one h
  obtain ⟨h0, h1⟩ := and_one h
  replace h0 : IntOp.cmpi .sge _ 0#32 = 1#1 := h0
  replace h1 : IntOp.cmpi .slt _ 64#32 = 1#1 := h1
  replace h2 : IntOp.cmpi .sge _ 0#32 = 1#1 := h2
  replace h3 : IntOp.cmpi .slt _ 64#32 = 1#1 := h3
  replace hne : IntOp.cmpi .ne _ _ = 1#1 := hne
  rw [e0] at h0 h1
  rw [e1] at h2 h3
  rw [e0, e1] at hne
  obtain ⟨a, ha⟩ := word_of_bits h0 h1
  obtain ⟨b, hb⟩ := word_of_bits h2 h3
  refine ⟨a, b, ha, hb, fun hab => ?_⟩
  rw [ha, hb, hab] at hne
  simp [IntOp.cmpi] at hne

/-- What the precondition says of the operands. -/
theorem of_fn {X : FVec Ideal S512x256 .bf16} {R : FVec Ideal S256x64 .bf16} {I : IVec S512x2 32} {W : FVec Ideal S2x256x512 .bf16}
    (h : fn (F := Ideal) X R I W = fun _ => 1#1) :
    (∀ i, Fin' (X i)) ∧ (∀ i, Fin' (R i)) ∧
      ∀ n : Fin 512, ∃ a b : Fin 64, I (ix2 n 0) = BitVec.ofNat 32 a.val ∧ I (ix2 n 1) = BitVec.ofNat 32 b.val ∧ a ≠ b := by
  have key : ∀ (n : Fin 512) (k : Fin 256) (e : Fin 64), (named I (ix1 n) = 1#1 ∧ finX X (ix2 n k) = 1#1) ∧ finR R (ix2 k e) = 1#1 := fun n k e => by
    have hb := (fn_apply X R I W n k e).symm.trans (congrFun h _)
    exact ⟨and_one (and_one hb).1, (and_one hb).2⟩
  refine ⟨fun i => ?_, fun i => ?_, fun n => named_apply I n (key n 0 0).1.1⟩
  · rw [eq_ix2 i]
    exact finite_of_bit _ (key (i 0) (i 1) 0).1.2
  · rw [eq_ix2 i]
    exact finite_of_bit _ (key 0 (i 0) (i 1)).2

end Cert.Moe.Pre

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.KernelValue
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- Of a final state of the kernel's run: the arguments are unchanged and every counter is at zero. -/
theorem kernel_end {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F))
    (h : Cert.Moe.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c (0 : Fin 5)).trans (Cert.Moe.final_arg0 m ρ c), (h c (1 : Fin 5)).trans (Cert.Moe.final_arg1 m ρ c),
    (h c (2 : Fin 5)).trans (Cert.Moe.final_arg2 m ρ c), (h c (3 : Fin 5)).trans (Cert.Moe.final_arg3 m ρ c)⟩

/-- The run of the kernel, over any float values: it ends, its arguments are unchanged and every counter is at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨fun c => kernel_end m ρ r h.1 c, h.2⟩) (Cert.Moe.run_main m ρ)

/-- The frame of the kernel at the bit-exact instance: the one run, at `Bits`. -/
theorem frame_kernel : Cert.quiescent_Kernel := fun m ρ _ => by
  rw [Cert.Moe.defs_same]
  exact frame (F := Bits) m ρ

/-- The frame of the kernel at the ideal instance: the same run, at `Ideal`. -/
theorem frame_kernelIdeal : Cert.quiescent_KernelIdeal := fun m ρ _ => frame (F := Ideal) m ρ

/-- The frame of the reference: it has no counter, so none can end above zero. -/
theorem frame_referenceIdeal : Cert.quiescent_ReferenceIdeal := fun m ρ _ =>
  (θ_run Cert.ReferenceIdeal.defs _ _).mono (fun r h => ⟨fun c => (h c).2, funext fun s => nomatch s⟩) (Cert.ReferenceIdeal.Value.run (F := Ideal) m ρ)

/-! ## The value -/

instance : Cert.Pre_finite_two_experts_KernelIdeal.Facts := Cert.Moe.Pre.factsKernelIdeal
instance : Cert.Pre_finite_two_experts_ReferenceIdeal.Facts := Cert.Moe.Pre.factsReferenceIdeal

/-- The kernel's result and the reference's are the same array: at every row and column both are the answer. -/
theorem same_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_two_experts_KernelIdeal m)
    (h0 : ∀ c : Dev Cert.KernelIdeal.nD, m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0))
    (h1 : ∀ c : Dev Cert.KernelIdeal.nD, m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (h2 : ∀ c : Dev Cert.KernelIdeal.nD, m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2))
    (h3 : ∀ c : Dev Cert.KernelIdeal.nD, m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) :
    Cert.Moe.outB m = Cert.ReferenceIdeal.Value.res_main_v71 m' 0 := by
  have hp := hpre 0
  rw [h0 0, h1 0, h2 0] at hp
  obtain ⟨hX, hR, hI⟩ := Cert.Moe.Pre.of_fn hp
  rw [Cert.Moe.Ref.res_eq]
  funext i
  rw [ValueIdx.eq_ix2 i]
  obtain ⟨a, b, ha, hb, hab⟩ := hI (i 0)
  exact (Cert.Moe.outB_answer m _ _ _ _ h0 h1 h2 h3 hX hR (i 0) (i 1) a b ha hb hab).trans
    (Cert.Moe.Ref.result_answer _ _ _ _ hX hR (i 0) (i 1) a b ha hb).symm

/-- From agreeing arguments the kernel, on every device, and the reference end with the same result. -/
theorem algebraic : Cert.algebraic_KernelIdeal_ReferenceIdeal_pre_finite_two_experts_KernelIdeal := fun m g m' g' hpre hargs => by
  have hval := same_value m m' hpre (fun c => (hargs c).1) (fun c => (hargs c).2.1) (fun c => (hargs c).2.2.1) (fun c => (hargs c).2.2.2)
  refine ⟨Cert.ReferenceIdeal.Value.res_main_v71 m' 0, ?_, ?_⟩
  · exact (θ_run Cert.KernelIdeal.defs _ _).mono (fun r h c => ⟨(h.1 c (4 : Fin 5)).trans ((Cert.Moe.final_out m g c).trans hval), kernel_end m g r h.1 c⟩)
      (Cert.Moe.run_main m g)
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Moe.Pre.factsKernelIdeal, Cert.Moe.Pre.factsReferenceIdeal,
  frame_kernel, frame_kernelIdeal, fun m ρ _ => frame_kernelIdeal m ρ trivial,
  frame_referenceIdeal, fun m ρ _ => frame_referenceIdeal m ρ trivial, trivial, algebraic⟩

end Cert.Proof

end
